-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "step" .f32 0x3E48C8C9#32 ((10 / 51 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v165) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000 : Shape := ⟨1, ![50000]⟩
abbrev S50000x3 : Shape := ⟨2, ![50000, 3]⟩
abbrev S800000 : Shape := ⟨1, ![800000]⟩
abbrev S1x60 : Shape := ⟨2, ![1, 60]⟩
abbrev S5x60 : Shape := ⟨2, ![5, 60]⟩
abbrev S3x50x128 : Shape := ⟨3, ![3, 50, 128]⟩
abbrev S3x128 : Shape := ⟨2, ![3, 128]⟩
abbrev S3x128x128 : Shape := ⟨3, ![3, 128, 128]⟩
abbrev S3x128x60 : Shape := ⟨3, ![3, 128, 60]⟩
abbrev S3x60 : Shape := ⟨2, ![3, 60]⟩
abbrev S3x9x60 : Shape := ⟨3, ![3, 9, 60]⟩
abbrev S3x60x60 : Shape := ⟨3, ![3, 60, 60]⟩
abbrev S60x2 : Shape := ⟨2, ![60, 2]⟩
abbrev S10 : Shape := ⟨1, ![10]⟩
abbrev S_ : Shape := ⟨0, ![]⟩
abbrev S800000x1 : Shape := ⟨2, ![800000, 1]⟩
abbrev S800000x3 : Shape := ⟨2, ![800000, 3]⟩
abbrev S800000x4 : Shape := ⟨2, ![800000, 4]⟩
abbrev S50000x1 : Shape := ⟨2, ![50000, 1]⟩
abbrev S1x5 : Shape := ⟨2, ![1, 5]⟩
abbrev S50000x5 : Shape := ⟨2, ![50000, 5]⟩
abbrev S60 : Shape := ⟨1, ![60]⟩
abbrev S50000x60 : Shape := ⟨2, ![50000, 60]⟩
abbrev S800000x60 : Shape := ⟨2, ![800000, 60]⟩
abbrev S1x50x128 : Shape := ⟨3, ![1, 50, 128]⟩
abbrev S50x128 : Shape := ⟨2, ![50, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x128x60 : Shape := ⟨3, ![1, 128, 60]⟩
abbrev S128x60 : Shape := ⟨2, ![128, 60]⟩
abbrev S1x9x60 : Shape := ⟨3, ![1, 9, 60]⟩
abbrev S9x60 : Shape := ⟨2, ![9, 60]⟩
abbrev S4000x4 : Shape := ⟨2, ![4000, 4]⟩
abbrev S4000x60 : Shape := ⟨2, ![4000, 60]⟩
abbrev S4000x1 : Shape := ⟨2, ![4000, 1]⟩
abbrev S4000x9 : Shape := ⟨2, ![4000, 9]⟩
abbrev S4000x50 : Shape := ⟨2, ![4000, 50]⟩
abbrev S4000x128 : Shape := ⟨2, ![4000, 128]⟩
abbrev S1x60x60 : Shape := ⟨3, ![1, 60, 60]⟩
abbrev S60x60 : Shape := ⟨2, ![60, 60]⟩
abbrev S50000x2 : Shape := ⟨2, ![50000, 2]⟩
abbrev S2500x1 : Shape := ⟨2, ![2500, 1]⟩

abbrev nBuf : Space → Nat
  | .hbm => 238
  | .vmem => 39
  | .smem => 0
  | _ => 0

abbrev hbmTy0_0 (i : Nat) : BufTy := match i % 128 with
  | 0 => ⟨S50000, .i32⟩
  | 1 => ⟨S50000x3, .f32⟩
  | 2 => ⟨S50000, .i32⟩
  | 3 => ⟨S800000, .i32⟩
  | 4 => ⟨S800000, .i32⟩
  | 5 => ⟨S1x60, .f32⟩
  | 6 => ⟨S5x60, .f32⟩
  | 7 => ⟨S3x50x128, .f32⟩
  | 8 => ⟨S3x128, .f32⟩
  | 9 => ⟨S3x128x128, .f32⟩
  | 10 => ⟨S3x128, .f32⟩
  | 11 => ⟨S3x128x60, .f32⟩
  | 12 => ⟨S3x60, .f32⟩
  | 13 => ⟨S3x9x60, .f32⟩
  | 14 => ⟨S3x60x60, .f32⟩
  | 15 => ⟨S60x2, .f32⟩
  | 16 => ⟨S10, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x3, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x3, .f32⟩
  | 35 => ⟨S800000x3, .f32⟩
  | 36 => ⟨S800000x3, .f32⟩
  | 37 => ⟨S_, .f32⟩
  | 38 => ⟨S800000, .f32⟩
  | 39 => ⟨S_, .f32⟩
  | 40 => ⟨S800000, .f32⟩
  | 41 => ⟨S800000, .f32⟩
  | 42 => ⟨S800000, .f32⟩
  | 43 => ⟨S800000x1, .f32⟩
  | 44 => ⟨S800000x3, .f32⟩
  | 45 => ⟨S800000x3, .f32⟩
  | 46 => ⟨S800000x1, .f32⟩
  | 47 => ⟨S800000x4, .f32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000, .i32⟩
  | 57 => ⟨S50000x1, .i32⟩
  | 58 => ⟨S1x5, .i32⟩
  | 59 => ⟨S50000x5, .i32⟩
  | 60 => ⟨S50000x5, .i32⟩
  | 61 => ⟨S50000x5, .i1⟩
  | 62 => ⟨S50000x5, .f32⟩
  | 63 => ⟨S_, .f32⟩
  | 64 => ⟨S50000x5, .f32⟩
  | 65 => ⟨S50000x5, .f32⟩
  | 66 => ⟨S_, .f32⟩
  | 67 => ⟨S60, .f32⟩
  | 68 => ⟨S_, .f32⟩
  | 69 => ⟨S60, .f32⟩
  | 70 => ⟨S60, .f32⟩
  | 71 => ⟨S50000x60, .f32⟩
  | 72 => ⟨S1x60, .f32⟩
  | 73 => ⟨S50000x60, .f32⟩
  | 74 => ⟨S50000x60, .f32⟩
  | 75 => ⟨S3x50x128, .bf16⟩
  | 76 => ⟨S3x128x128, .bf16⟩
  | 77 => ⟨S3x128x60, .bf16⟩
  | 78 => ⟨S3x9x60, .bf16⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x60, .f32⟩
  | 88 => ⟨S1x50x128, .bf16⟩
  | 89 => ⟨S50x128, .bf16⟩
  | 90 => ⟨S1x128, .f32⟩
  | 91 => ⟨S128, .f32⟩
  | 92 => ⟨S1x128x128, .bf16⟩
  | 93 => ⟨S128x128, .bf16⟩
  | 94 => ⟨S1x128, .f32⟩
  | 95 => ⟨S128, .f32⟩
  | 96 => ⟨S1x128x60, .bf16⟩
  | 97 => ⟨S128x60, .bf16⟩
  | 98 => ⟨S1x60, .f32⟩
  | 99 => ⟨S60, .f32⟩
  | 100 => ⟨S1x9x60, .bf16⟩
  | 101 => ⟨S9x60, .bf16⟩
  | 102 => ⟨S1x128, .f32⟩
  | 103 => ⟨S1x128, .f32⟩
  | 104 => ⟨S1x60, .f32⟩
  | 105 => ⟨S800000x60, .f32⟩
  | 106 => ⟨S_, .f32⟩
  | 107 => ⟨S50000x60, .f32⟩
  | 108 => ⟨S800000x1, .i32⟩
  | 109 => ⟨S50000x60, .f32⟩
  | 110 => ⟨S_, .f32⟩
  | 111 => ⟨S50000x60, .f32⟩
  | 112 => ⟨S50000x60, .f32⟩
  | 113 => ⟨S50000x60, .f32⟩
  | 114 => ⟨S1x60x60, .f32⟩
  | 115 => ⟨S60x60, .f32⟩
  | 116 => ⟨S50000x60, .f32⟩
  | 117 => ⟨S50000x60, .f32⟩
  | 118 => ⟨S50000x60, .f32⟩
  | 119 => ⟨S_, .f32⟩
  | 120 => ⟨S50000x60, .f32⟩
  | 121 => ⟨S50000x60, .f32⟩
  | 122 => ⟨S_, .f32⟩
  | 123 => ⟨S50000x60, .f32⟩
  | 124 => ⟨S50000x60, .f32⟩
  | 125 => ⟨S50000x60, .f32⟩
  | 126 => ⟨S_, .i32⟩
  | 127 => ⟨S800000, .i32⟩
  | _ => ⟨S50000, .i32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x60, .f32⟩
  | 7 => ⟨S1x50x128, .bf16⟩
  | 8 => ⟨S50x128, .bf16⟩
  | 9 => ⟨S1x128, .f32⟩
  | 10 => ⟨S128, .f32⟩
  | 11 => ⟨S1x128x128, .bf16⟩
  | 12 => ⟨S128x128, .bf16⟩
  | 13 => ⟨S1x128, .f32⟩
  | 14 => ⟨S128, .f32⟩
  | 15 => ⟨S1x128x60, .bf16⟩
  | 16 => ⟨S128x60, .bf16⟩
  | 17 => ⟨S1x60, .f32⟩
  | 18 => ⟨S60, .f32⟩
  | 19 => ⟨S1x9x60, .bf16⟩
  | 20 => ⟨S9x60, .bf16⟩
  | 21 => ⟨S1x128, .f32⟩
  | 22 => ⟨S1x128, .f32⟩
  | 23 => ⟨S1x60, .f32⟩
  | 24 => ⟨S800000x60, .f32⟩
  | 25 => ⟨S_, .f32⟩
  | 26 => ⟨S50000x60, .f32⟩
  | 27 => ⟨S800000x1, .i32⟩
  | 28 => ⟨S50000x60, .f32⟩
  | 29 => ⟨S_, .f32⟩
  | 30 => ⟨S50000x60, .f32⟩
  | 31 => ⟨S50000x60, .f32⟩
  | 32 => ⟨S50000x60, .f32⟩
  | 33 => ⟨S1x60x60, .f32⟩
  | 34 => ⟨S60x60, .f32⟩
  | 35 => ⟨S50000x60, .f32⟩
  | 36 => ⟨S50000x60, .f32⟩
  | 37 => ⟨S50000x60, .f32⟩
  | 38 => ⟨S_, .f32⟩
  | 39 => ⟨S50000x60, .f32⟩
  | 40 => ⟨S50000x60, .f32⟩
  | 41 => ⟨S_, .f32⟩
  | 42 => ⟨S50000x60, .f32⟩
  | 43 => ⟨S50000x60, .f32⟩
  | 44 => ⟨S50000x60, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x60, .f32⟩
  | 54 => ⟨S1x50x128, .bf16⟩
  | 55 => ⟨S50x128, .bf16⟩
  | 56 => ⟨S1x128, .f32⟩
  | 57 => ⟨S128, .f32⟩
  | 58 => ⟨S1x128x128, .bf16⟩
  | 59 => ⟨S128x128, .bf16⟩
  | 60 => ⟨S1x128, .f32⟩
  | 61 => ⟨S128, .f32⟩
  | 62 => ⟨S1x128x60, .bf16⟩
  | 63 => ⟨S128x60, .bf16⟩
  | 64 => ⟨S1x60, .f32⟩
  | 65 => ⟨S60, .f32⟩
  | 66 => ⟨S1x9x60, .bf16⟩
  | 67 => ⟨S9x60, .bf16⟩
  | 68 => ⟨S1x128, .f32⟩
  | 69 => ⟨S1x128, .f32⟩
  | 70 => ⟨S1x60, .f32⟩
  | 71 => ⟨S800000x60, .f32⟩
  | 72 => ⟨S_, .f32⟩
  | 73 => ⟨S50000x60, .f32⟩
  | 74 => ⟨S800000x1, .i32⟩
  | 75 => ⟨S50000x60, .f32⟩
  | 76 => ⟨S_, .f32⟩
  | 77 => ⟨S50000x60, .f32⟩
  | 78 => ⟨S50000x60, .f32⟩
  | 79 => ⟨S50000x60, .f32⟩
  | 80 => ⟨S1x60x60, .f32⟩
  | 81 => ⟨S60x60, .f32⟩
  | 82 => ⟨S50000x60, .f32⟩
  | 83 => ⟨S50000x60, .f32⟩
  | 84 => ⟨S50000x60, .f32⟩
  | 85 => ⟨S_, .f32⟩
  | 86 => ⟨S50000x60, .f32⟩
  | 87 => ⟨S50000x60, .f32⟩
  | 88 => ⟨S_, .f32⟩
  | 89 => ⟨S50000x60, .f32⟩
  | 90 => ⟨S50000x60, .f32⟩
  | 91 => ⟨S50000x60, .f32⟩
  | 92 => ⟨S50000x2, .f32⟩
  | 93 => ⟨S50000x1, .f32⟩
  | 94 => ⟨S50000, .f32⟩
  | 95 => ⟨S50000x1, .f32⟩
  | 96 => ⟨S50000, .f32⟩
  | 97 => ⟨S50000, .f32⟩
  | 98 => ⟨S_, .f32⟩
  | 99 => ⟨S50000, .f32⟩
  | 100 => ⟨S50000, .f32⟩
  | 101 => ⟨S50000, .f32⟩
  | 102 => ⟨S_, .f32⟩
  | 103 => ⟨S50000, .f32⟩
  | 104 => ⟨S50000, .f32⟩
  | 105 => ⟨S50000x1, .f32⟩
  | 106 => ⟨S_, .f32⟩
  | 107 => ⟨S2500x1, .f32⟩
  | 108 => ⟨S50000x1, .i32⟩
  | 109 => ⟨S2500x1, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S4000x4, .f32⟩
  | .local _ .vmem, ⟨1, _⟩ => ⟨S4000x4, .f32⟩
  | .local _ .vmem, ⟨2, _⟩ => ⟨S4000x60, .f32⟩
  | .local _ .vmem, ⟨3, _⟩ => ⟨S4000x60, .f32⟩
  | .local _ .vmem, ⟨4, _⟩ => ⟨S50x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S128x60, .bf16⟩
  | .local _ .vmem, ⟨9, _⟩ => ⟨S1x60, .f32⟩
  | .local _ .vmem, ⟨10, _⟩ => ⟨S9x60, .bf16⟩
  | .local _ .vmem, ⟨11, _⟩ => ⟨S4000x60, .f32⟩
  | .local _ .vmem, ⟨12, _⟩ => ⟨S4000x60, .f32⟩
  | .local _ .vmem, ⟨13, _⟩ => ⟨S4000x4, .f32⟩
  | .local _ .vmem, ⟨14, _⟩ => ⟨S4000x4, .f32⟩
  | .local _ .vmem, ⟨15, _⟩ => ⟨S4000x60, .f32⟩
  | .local _ .vmem, ⟨16, _⟩ => ⟨S4000x60, .f32⟩
  | .local _ .vmem, ⟨17, _⟩ => ⟨S50x128, .bf16⟩
  | .local _ .vmem, ⟨18, _⟩ => ⟨S1x128, .f32⟩
  | .local _ .vmem, ⟨19, _⟩ => ⟨S128x128, .bf16⟩
  | .local _ .vmem, ⟨20, _⟩ => ⟨S1x128, .f32⟩
  | .local _ .vmem, ⟨21, _⟩ => ⟨S128x60, .bf16⟩
  | .local _ .vmem, ⟨22, _⟩ => ⟨S1x60, .f32⟩
  | .local _ .vmem, ⟨23, _⟩ => ⟨S9x60, .bf16⟩
  | .local _ .vmem, ⟨24, _⟩ => ⟨S4000x60, .f32⟩
  | .local _ .vmem, ⟨25, _⟩ => ⟨S4000x60, .f32⟩
  | .local _ .vmem, ⟨26, _⟩ => ⟨S4000x4, .f32⟩
  | .local _ .vmem, ⟨27, _⟩ => ⟨S4000x4, .f32⟩
  | .local _ .vmem, ⟨28, _⟩ => ⟨S4000x60, .f32⟩
  | .local _ .vmem, ⟨29, _⟩ => ⟨S4000x60, .f32⟩
  | .local _ .vmem, ⟨30, _⟩ => ⟨S50x128, .bf16⟩
  | .local _ .vmem, ⟨31, _⟩ => ⟨S1x128, .f32⟩
  | .local _ .vmem, ⟨32, _⟩ => ⟨S128x128, .bf16⟩
  | .local _ .vmem, ⟨33, _⟩ => ⟨S1x128, .f32⟩
  | .local _ .vmem, ⟨34, _⟩ => ⟨S128x60, .bf16⟩
  | .local _ .vmem, ⟨35, _⟩ => ⟨S1x60, .f32⟩
  | .local _ .vmem, ⟨36, _⟩ => ⟨S9x60, .bf16⟩
  | .local _ .vmem, ⟨37, _⟩ => ⟨S4000x60, .f32⟩
  | .local _ .vmem, ⟨38, _⟩ => ⟨S4000x60, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_v0 : Ref sig .tc := ⟨.hbm, 18, rfl⟩
abbrev main_v1 : Ref sig .tc := ⟨.hbm, 19, rfl⟩
abbrev main_c_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_v34 : Ref sig .tc := ⟨.hbm, 65, rfl⟩
abbrev main_cst_8 : Ref sig .tc := ⟨.hbm, 66, rfl⟩
abbrev main_v35 : Ref sig .tc := ⟨.hbm, 67, rfl⟩
abbrev main_cst_9 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_10 : Ref sig .tc := ⟨.hbm, 79, rfl⟩
abbrev main_v46 : Ref sig .tc := ⟨.hbm, 80, rfl⟩
abbrev main_v47 : Ref sig .tc := ⟨.hbm, 81, rfl⟩
abbrev main_c_11 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_12 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_13 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call1_v0 : Ref sig .tc := ⟨.hbm, 117, rfl⟩
abbrev main_call1_v1 : Ref sig .tc := ⟨.hbm, 118, rfl⟩
abbrev main_call1_cst : Ref sig .tc := ⟨.hbm, 119, rfl⟩
abbrev main_call1_v2 : Ref sig .tc := ⟨.hbm, 120, rfl⟩
abbrev main_call1_v3 : Ref sig .tc := ⟨.hbm, 121, rfl⟩
abbrev main_call1_cst_0 : Ref sig .tc := ⟨.hbm, 122, rfl⟩
abbrev main_call1_v4 : Ref sig .tc := ⟨.hbm, 123, rfl⟩
abbrev main_call1_v5 : Ref sig .tc := ⟨.hbm, 124, rfl⟩
abbrev main_v80 : Ref sig .tc := ⟨.hbm, 125, rfl⟩
abbrev main_c_14 : Ref sig .tc := ⟨.hbm, 126, rfl⟩
abbrev main_v81 : Ref sig .tc := ⟨.hbm, 127, rfl⟩
abbrev main_v82 : Ref sig .tc := ⟨.hbm, 128, rfl⟩
abbrev main_c_15 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_16 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_17 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_call2_v0 : Ref sig .tc := ⟨.hbm, 164, rfl⟩
abbrev main_call2_v1 : Ref sig .tc := ⟨.hbm, 165, rfl⟩
abbrev main_call2_cst : Ref sig .tc := ⟨.hbm, 166, rfl⟩
abbrev main_call2_v2 : Ref sig .tc := ⟨.hbm, 167, rfl⟩
abbrev main_call2_v3 : Ref sig .tc := ⟨.hbm, 168, rfl⟩
abbrev main_call2_cst_0 : Ref sig .tc := ⟨.hbm, 169, rfl⟩
abbrev main_call2_v4 : Ref sig .tc := ⟨.hbm, 170, rfl⟩
abbrev main_call2_v5 : Ref sig .tc := ⟨.hbm, 171, rfl⟩
abbrev main_v115 : Ref sig .tc := ⟨.hbm, 172, rfl⟩
abbrev main_c_18 : Ref sig .tc := ⟨.hbm, 173, rfl⟩
abbrev main_v116 : Ref sig .tc := ⟨.hbm, 174, rfl⟩
abbrev main_v117 : Ref sig .tc := ⟨.hbm, 175, rfl⟩
abbrev main_c_19 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_cst_20 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_21 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_call3_v0 : Ref sig .tc := ⟨.hbm, 211, rfl⟩
abbrev main_call3_v1 : Ref sig .tc := ⟨.hbm, 212, rfl⟩
abbrev main_call3_cst : Ref sig .tc := ⟨.hbm, 213, rfl⟩
abbrev main_call3_v2 : Ref sig .tc := ⟨.hbm, 214, rfl⟩
abbrev main_call3_v3 : Ref sig .tc := ⟨.hbm, 215, rfl⟩
abbrev main_call3_cst_0 : Ref sig .tc := ⟨.hbm, 216, rfl⟩
abbrev main_call3_v4 : Ref sig .tc := ⟨.hbm, 217, rfl⟩
abbrev main_call3_v5 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_22 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_cst_23 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_cst_24 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x60 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x60 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x60 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x60 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x60 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x60 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x60 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S9x60 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x60 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x60 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x60 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x60 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S9x60 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x60 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== KernelIdeal.lean ====
variable {F : FTy → Type} [FloatOps F] [Named F]
def κ : String → Option EReal := fun
  | "step" => some ((10 / 51 : ℝ) : EReal)
  | _ => none
-- ==== ReferenceIdeal.lean ====
abbrev S50000 : Shape := ⟨1, ![50000]⟩
abbrev S50000x3 : Shape := ⟨2, ![50000, 3]⟩
abbrev S800000 : Shape := ⟨1, ![800000]⟩
abbrev S1x60 : Shape := ⟨2, ![1, 60]⟩
abbrev S5x60 : Shape := ⟨2, ![5, 60]⟩
abbrev S3x50x128 : Shape := ⟨3, ![3, 50, 128]⟩
abbrev S3x128 : Shape := ⟨2, ![3, 128]⟩
abbrev S3x128x128 : Shape := ⟨3, ![3, 128, 128]⟩
abbrev S3x128x60 : Shape := ⟨3, ![3, 128, 60]⟩
abbrev S3x60 : Shape := ⟨2, ![3, 60]⟩
abbrev S3x9x60 : Shape := ⟨3, ![3, 9, 60]⟩
abbrev S3x60x60 : Shape := ⟨3, ![3, 60, 60]⟩
abbrev S60x2 : Shape := ⟨2, ![60, 2]⟩
abbrev S10 : Shape := ⟨1, ![10]⟩
abbrev S_ : Shape := ⟨0, ![]⟩
abbrev S800000x1 : Shape := ⟨2, ![800000, 1]⟩
abbrev S800000x3 : Shape := ⟨2, ![800000, 3]⟩
abbrev S800000x9 : Shape := ⟨2, ![800000, 9]⟩
abbrev S51 : Shape := ⟨1, ![51]⟩
abbrev S1 : Shape := ⟨1, ![1]⟩
abbrev S52 : Shape := ⟨1, ![52]⟩
abbrev S50 : Shape := ⟨1, ![50]⟩
abbrev S1x50 : Shape := ⟨2, ![1, 50]⟩
abbrev S800000x50 : Shape := ⟨2, ![800000, 50]⟩
abbrev S50000x1 : Shape := ⟨2, ![50000, 1]⟩
abbrev S1x5 : Shape := ⟨2, ![1, 5]⟩
abbrev S50000x5 : Shape := ⟨2, ![50000, 5]⟩
abbrev S50000x60 : Shape := ⟨2, ![50000, 60]⟩
abbrev S1x50x128 : Shape := ⟨3, ![1, 50, 128]⟩
abbrev S50x128 : Shape := ⟨2, ![50, 128]⟩
abbrev S800000x128 : Shape := ⟨2, ![800000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S1x128x60 : Shape := ⟨3, ![1, 128, 60]⟩
abbrev S128x60 : Shape := ⟨2, ![128, 60]⟩
abbrev S800000x60 : Shape := ⟨2, ![800000, 60]⟩
abbrev S60 : Shape := ⟨1, ![60]⟩
abbrev S1x9x60 : Shape := ⟨3, ![1, 9, 60]⟩
abbrev S9x60 : Shape := ⟨2, ![9, 60]⟩
abbrev S1x60x60 : Shape := ⟨3, ![1, 60, 60]⟩
abbrev S60x60 : Shape := ⟨2, ![60, 60]⟩
abbrev S50000x2 : Shape := ⟨2, ![50000, 2]⟩
abbrev S2500x1 : Shape := ⟨2, ![2500, 1]⟩

abbrev nBuf : Space → Nat
  | .hbm => 430
  | .vmem => 0
  | .smem => 0
  | _ => 0

abbrev hbmTy0_0 (i : Nat) : BufTy := match i % 128 with
  | 0 => ⟨S50000, .i32⟩
  | 1 => ⟨S50000x3, .f32⟩
  | 2 => ⟨S50000, .i32⟩
  | 3 => ⟨S800000, .i32⟩
  | 4 => ⟨S800000, .i32⟩
  | 5 => ⟨S1x60, .f32⟩
  | 6 => ⟨S5x60, .f32⟩
  | 7 => ⟨S3x50x128, .f32⟩
  | 8 => ⟨S3x128, .f32⟩
  | 9 => ⟨S3x128x128, .f32⟩
  | 10 => ⟨S3x128, .f32⟩
  | 11 => ⟨S3x128x60, .f32⟩
  | 12 => ⟨S3x60, .f32⟩
  | 13 => ⟨S3x9x60, .f32⟩
  | 14 => ⟨S3x60x60, .f32⟩
  | 15 => ⟨S60x2, .f32⟩
  | 16 => ⟨S10, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x3, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x3, .f32⟩
  | 35 => ⟨S800000x3, .f32⟩
  | 36 => ⟨S800000x3, .f32⟩
  | 37 => ⟨S_, .f32⟩
  | 38 => ⟨S800000, .f32⟩
  | 39 => ⟨S_, .f32⟩
  | 40 => ⟨S800000, .f32⟩
  | 41 => ⟨S800000, .f32⟩
  | 42 => ⟨S800000, .f32⟩
  | 43 => ⟨S800000x1, .f32⟩
  | 44 => ⟨S800000x3, .f32⟩
  | 45 => ⟨S800000x3, .f32⟩
  | 46 => ⟨S800000x1, .f32⟩
  | 47 => ⟨S800000, .f32⟩
  | 48 => ⟨S800000x1, .f32⟩
  | 49 => ⟨S800000, .f32⟩
  | 50 => ⟨S800000x1, .f32⟩
  | 51 => ⟨S800000, .f32⟩
  | 52 => ⟨S_, .f32⟩
  | 53 => ⟨S800000, .f32⟩
  | 54 => ⟨S_, .f32⟩
  | 55 => ⟨S800000, .f32⟩
  | 56 => ⟨S800000, .f32⟩
  | 57 => ⟨S_, .f32⟩
  | 58 => ⟨S800000, .f32⟩
  | 59 => ⟨S800000, .f32⟩
  | 60 => ⟨S_, .f32⟩
  | 61 => ⟨S800000, .f32⟩
  | 62 => ⟨S800000, .f32⟩
  | 63 => ⟨S_, .f32⟩
  | 64 => ⟨S800000, .f32⟩
  | 65 => ⟨S800000, .f32⟩
  | 66 => ⟨S800000, .f32⟩
  | 67 => ⟨S_, .f32⟩
  | 68 => ⟨S800000, .f32⟩
  | 69 => ⟨S800000, .f32⟩
  | 70 => ⟨S800000, .f32⟩
  | 71 => ⟨S_, .f32⟩
  | 72 => ⟨S800000, .f32⟩
  | 73 => ⟨S800000, .f32⟩
  | 74 => ⟨S800000, .f32⟩
  | 75 => ⟨S_, .f32⟩
  | 76 => ⟨S800000, .f32⟩
  | 77 => ⟨S800000, .f32⟩
  | 78 => ⟨S_, .f32⟩
  | 79 => ⟨S800000, .f32⟩
  | 80 => ⟨S800000, .f32⟩
  | 81 => ⟨S_, .f32⟩
  | 82 => ⟨S800000, .f32⟩
  | 83 => ⟨S800000, .f32⟩
  | 84 => ⟨S800000, .f32⟩
  | 85 => ⟨S800000, .f32⟩
  | 86 => ⟨S800000, .f32⟩
  | 87 => ⟨S800000, .f32⟩
  | 88 => ⟨S_, .f32⟩
  | 89 => ⟨S800000, .f32⟩
  | 90 => ⟨S800000, .f32⟩
  | 91 => ⟨S800000x1, .f32⟩
  | 92 => ⟨S800000x1, .f32⟩
  | 93 => ⟨S800000x1, .f32⟩
  | 94 => ⟨S800000x1, .f32⟩
  | 95 => ⟨S800000x1, .f32⟩
  | 96 => ⟨S800000x1, .f32⟩
  | 97 => ⟨S800000x1, .f32⟩
  | 98 => ⟨S800000x1, .f32⟩
  | 99 => ⟨S800000x1, .f32⟩
  | 100 => ⟨S800000x9, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S51, .f32⟩
  | 109 => ⟨S_, .f32⟩
  | 110 => ⟨S51, .f32⟩
  | 111 => ⟨S51, .f32⟩
  | 112 => ⟨S1, .f32⟩
  | 113 => ⟨S_, .f32⟩
  | 114 => ⟨S51, .f32⟩
  | 115 => ⟨S51, .f32⟩
  | 116 => ⟨S51, .f32⟩
  | 117 => ⟨S51, .f32⟩
  | 118 => ⟨S1, .f32⟩
  | 119 => ⟨S51, .f32⟩
  | 120 => ⟨S51, .f32⟩
  | 121 => ⟨S51, .f32⟩
  | 122 => ⟨S1, .f32⟩
  | 123 => ⟨S52, .f32⟩
  | 124 => ⟨S50, .f32⟩
  | 125 => ⟨S_, .f32⟩
  | 126 => ⟨S_, .f32⟩
  | 127 => ⟨S_, .f32⟩
  | _ => ⟨S50000, .i32⟩

abbrev hbmTy0_1 (i : Nat) : BufTy := match i % 128 with
  | 0 => ⟨S800000x1, .f32⟩
  | 1 => ⟨S1x50, .f32⟩
  | 2 => ⟨S800000x50, .f32⟩
  | 3 => ⟨S800000x50, .f32⟩
  | 4 => ⟨S800000x50, .f32⟩
  | 5 => ⟨S800000x50, .f32⟩
  | 6 => ⟨S800000x50, .f32⟩
  | 7 => ⟨S800000x50, .f32⟩
  | 8 => ⟨S_, .f32⟩
  | 9 => ⟨S800000x50, .f32⟩
  | 10 => ⟨S800000x50, .i1⟩
  | 11 => ⟨S800000x50, .f32⟩
  | 12 => ⟨S_, .f32⟩
  | 13 => ⟨S800000x50, .f32⟩
  | 14 => ⟨S800000x50, .f32⟩
  | 15 => ⟨S_, .f32⟩
  | 16 => ⟨S_, .f32⟩
  | 17 => ⟨S800000x50, .f32⟩
  | 18 => ⟨S800000x50, .f32⟩
  | 19 => ⟨S_, .f32⟩
  | 20 => ⟨S800000x50, .f32⟩
  | 21 => ⟨S800000x50, .f32⟩
  | 22 => ⟨S800000x50, .f32⟩
  | 23 => ⟨S_, .f32⟩
  | 24 => ⟨S800000x50, .f32⟩
  | 25 => ⟨S800000x50, .f32⟩
  | 26 => ⟨S_, .f32⟩
  | 27 => ⟨S_, .f32⟩
  | 28 => ⟨S800000x50, .f32⟩
  | 29 => ⟨S800000x50, .f32⟩
  | 30 => ⟨S_, .f32⟩
  | 31 => ⟨S800000x50, .f32⟩
  | 32 => ⟨S800000x50, .f32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000, .i32⟩
  | 42 => ⟨S50000x1, .i32⟩
  | 43 => ⟨S1x5, .i32⟩
  | 44 => ⟨S50000x5, .i32⟩
  | 45 => ⟨S50000x5, .i32⟩
  | 46 => ⟨S50000x5, .i1⟩
  | 47 => ⟨S50000x5, .f32⟩
  | 48 => ⟨S_, .f32⟩
  | 49 => ⟨S50000x5, .f32⟩
  | 50 => ⟨S50000x5, .f32⟩
  | 51 => ⟨S_, .f32⟩
  | 52 => ⟨S50000x1, .f32⟩
  | 53 => ⟨S50000x60, .f32⟩
  | 54 => ⟨S50000x60, .f32⟩
  | 55 => ⟨S50000x60, .f32⟩
  | 56 => ⟨S1x50x128, .f32⟩
  | 57 => ⟨S50x128, .f32⟩
  | 58 => ⟨S800000x128, .f32⟩
  | 59 => ⟨S1x128, .f32⟩
  | 60 => ⟨S128, .f32⟩
  | 61 => ⟨S1x128, .f32⟩
  | 62 => ⟨S800000x128, .f32⟩
  | 63 => ⟨S800000x128, .f32⟩
  | 64 => ⟨S800000x128, .f32⟩
  | 65 => ⟨S800000x128, .f32⟩
  | 66 => ⟨S_, .f32⟩
  | 67 => ⟨S800000x128, .f32⟩
  | 68 => ⟨S800000x128, .f32⟩
  | 69 => ⟨S_, .f32⟩
  | 70 => ⟨S800000x128, .f32⟩
  | 71 => ⟨S800000x128, .f32⟩
  | 72 => ⟨S800000x128, .f32⟩
  | 73 => ⟨S1x128x128, .f32⟩
  | 74 => ⟨S128x128, .f32⟩
  | 75 => ⟨S800000x128, .f32⟩
  | 76 => ⟨S1x128, .f32⟩
  | 77 => ⟨S128, .f32⟩
  | 78 => ⟨S1x128, .f32⟩
  | 79 => ⟨S800000x128, .f32⟩
  | 80 => ⟨S800000x128, .f32⟩
  | 81 => ⟨S800000x128, .f32⟩
  | 82 => ⟨S800000x128, .f32⟩
  | 83 => ⟨S_, .f32⟩
  | 84 => ⟨S800000x128, .f32⟩
  | 85 => ⟨S800000x128, .f32⟩
  | 86 => ⟨S_, .f32⟩
  | 87 => ⟨S800000x128, .f32⟩
  | 88 => ⟨S800000x128, .f32⟩
  | 89 => ⟨S800000x128, .f32⟩
  | 90 => ⟨S1x128x60, .f32⟩
  | 91 => ⟨S128x60, .f32⟩
  | 92 => ⟨S800000x60, .f32⟩
  | 93 => ⟨S1x60, .f32⟩
  | 94 => ⟨S60, .f32⟩
  | 95 => ⟨S1x60, .f32⟩
  | 96 => ⟨S800000x60, .f32⟩
  | 97 => ⟨S800000x60, .f32⟩
  | 98 => ⟨S1x9x60, .f32⟩
  | 99 => ⟨S9x60, .f32⟩
  | 100 => ⟨S800000x60, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x60, .f32⟩
  | 110 => ⟨S800000x60, .f32⟩
  | 111 => ⟨S800000x60, .f32⟩
  | 112 => ⟨S_, .f32⟩
  | 113 => ⟨S50000x60, .f32⟩
  | 114 => ⟨S800000x1, .i32⟩
  | 115 => ⟨S50000x60, .f32⟩
  | 116 => ⟨S_, .f32⟩
  | 117 => ⟨S50000x60, .f32⟩
  | 118 => ⟨S50000x60, .f32⟩
  | 119 => ⟨S50000x60, .f32⟩
  | 120 => ⟨S1x60x60, .f32⟩
  | 121 => ⟨S60x60, .f32⟩
  | 122 => ⟨S50000x60, .f32⟩
  | 123 => ⟨S50000x60, .f32⟩
  | 124 => ⟨S50000x60, .f32⟩
  | 125 => ⟨S_, .f32⟩
  | 126 => ⟨S50000x60, .f32⟩
  | 127 => ⟨S50000x60, .f32⟩
  | _ => ⟨S50000, .i32⟩

abbrev hbmTy0_2 (i : Nat) : BufTy := match i % 128 with
  | 0 => ⟨S_, .f32⟩
  | 1 => ⟨S50000x60, .f32⟩
  | 2 => ⟨S50000x60, .f32⟩
  | 3 => ⟨S50000x60, .f32⟩
  | 4 => ⟨S1x50x128, .f32⟩
  | 5 => ⟨S50x128, .f32⟩
  | 6 => ⟨S800000x128, .f32⟩
  | 7 => ⟨S1x128, .f32⟩
  | 8 => ⟨S128, .f32⟩
  | 9 => ⟨S1x128, .f32⟩
  | 10 => ⟨S800000x128, .f32⟩
  | 11 => ⟨S800000x128, .f32⟩
  | 12 => ⟨S800000x128, .f32⟩
  | 13 => ⟨S800000x128, .f32⟩
  | 14 => ⟨S_, .f32⟩
  | 15 => ⟨S800000x128, .f32⟩
  | 16 => ⟨S800000x128, .f32⟩
  | 17 => ⟨S_, .f32⟩
  | 18 => ⟨S800000x128, .f32⟩
  | 19 => ⟨S800000x128, .f32⟩
  | 20 => ⟨S800000x128, .f32⟩
  | 21 => ⟨S1x128x128, .f32⟩
  | 22 => ⟨S128x128, .f32⟩
  | 23 => ⟨S800000x128, .f32⟩
  | 24 => ⟨S1x128, .f32⟩
  | 25 => ⟨S128, .f32⟩
  | 26 => ⟨S1x128, .f32⟩
  | 27 => ⟨S800000x128, .f32⟩
  | 28 => ⟨S800000x128, .f32⟩
  | 29 => ⟨S800000x128, .f32⟩
  | 30 => ⟨S800000x128, .f32⟩
  | 31 => ⟨S_, .f32⟩
  | 32 => ⟨S800000x128, .f32⟩
  | 33 => ⟨S800000x128, .f32⟩
  | 34 => ⟨S_, .f32⟩
  | 35 => ⟨S800000x128, .f32⟩
  | 36 => ⟨S800000x128, .f32⟩
  | 37 => ⟨S800000x128, .f32⟩
  | 38 => ⟨S1x128x60, .f32⟩
  | 39 => ⟨S128x60, .f32⟩
  | 40 => ⟨S800000x60, .f32⟩
  | 41 => ⟨S1x60, .f32⟩
  | 42 => ⟨S60, .f32⟩
  | 43 => ⟨S1x60, .f32⟩
  | 44 => ⟨S800000x60, .f32⟩
  | 45 => ⟨S800000x60, .f32⟩
  | 46 => ⟨S1x9x60, .f32⟩
  | 47 => ⟨S9x60, .f32⟩
  | 48 => ⟨S800000x60, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x60, .f32⟩
  | 58 => ⟨S800000x60, .f32⟩
  | 59 => ⟨S800000x60, .f32⟩
  | 60 => ⟨S_, .f32⟩
  | 61 => ⟨S50000x60, .f32⟩
  | 62 => ⟨S800000x1, .i32⟩
  | 63 => ⟨S50000x60, .f32⟩
  | 64 => ⟨S_, .f32⟩
  | 65 => ⟨S50000x60, .f32⟩
  | 66 => ⟨S50000x60, .f32⟩
  | 67 => ⟨S50000x60, .f32⟩
  | 68 => ⟨S1x60x60, .f32⟩
  | 69 => ⟨S60x60, .f32⟩
  | 70 => ⟨S50000x60, .f32⟩
  | 71 => ⟨S50000x60, .f32⟩
  | 72 => ⟨S50000x60, .f32⟩
  | 73 => ⟨S_, .f32⟩
  | 74 => ⟨S50000x60, .f32⟩
  | 75 => ⟨S50000x60, .f32⟩
  | 76 => ⟨S_, .f32⟩
  | 77 => ⟨S50000x60, .f32⟩
  | 78 => ⟨S50000x60, .f32⟩
  | 79 => ⟨S50000x60, .f32⟩
  | 80 => ⟨S1x50x128, .f32⟩
  | 81 => ⟨S50x128, .f32⟩
  | 82 => ⟨S800000x128, .f32⟩
  | 83 => ⟨S1x128, .f32⟩
  | 84 => ⟨S128, .f32⟩
  | 85 => ⟨S1x128, .f32⟩
  | 86 => ⟨S800000x128, .f32⟩
  | 87 => ⟨S800000x128, .f32⟩
  | 88 => ⟨S800000x128, .f32⟩
  | 89 => ⟨S800000x128, .f32⟩
  | 90 => ⟨S_, .f32⟩
  | 91 => ⟨S800000x128, .f32⟩
  | 92 => ⟨S800000x128, .f32⟩
  | 93 => ⟨S_, .f32⟩
  | 94 => ⟨S800000x128, .f32⟩
  | 95 => ⟨S800000x128, .f32⟩
  | 96 => ⟨S800000x128, .f32⟩
  | 97 => ⟨S1x128x128, .f32⟩
  | 98 => ⟨S128x128, .f32⟩
  | 99 => ⟨S800000x128, .f32⟩
  | 100 => ⟨S1x128, .f32⟩
  | 101 => ⟨S128, .f32⟩
  | 102 => ⟨S1x128, .f32⟩
  | 103 => ⟨S800000x128, .f32⟩
  | 104 => ⟨S800000x128, .f32⟩
  | 105 => ⟨S800000x128, .f32⟩
  | 106 => ⟨S800000x128, .f32⟩
  | 107 => ⟨S_, .f32⟩
  | 108 => ⟨S800000x128, .f32⟩
  | 109 => ⟨S800000x128, .f32⟩
  | 110 => ⟨S_, .f32⟩
  | 111 => ⟨S800000x128, .f32⟩
  | 112 => ⟨S800000x128, .f32⟩
  | 113 => ⟨S800000x128, .f32⟩
  | 114 => ⟨S1x128x60, .f32⟩
  | 115 => ⟨S128x60, .f32⟩
  | 116 => ⟨S800000x60, .f32⟩
  | 117 => ⟨S1x60, .f32⟩
  | 118 => ⟨S60, .f32⟩
  | 119 => ⟨S1x60, .f32⟩
  | 120 => ⟨S800000x60, .f32⟩
  | 121 => ⟨S800000x60, .f32⟩
  | 122 => ⟨S1x9x60, .f32⟩
  | 123 => ⟨S9x60, .f32⟩
  | 124 => ⟨S800000x60, .f32⟩
  | 125 => ⟨S_, .i32⟩
  | 126 => ⟨S800000, .i32⟩
  | 127 => ⟨S800000, .i1⟩
  | _ => ⟨S50000, .i32⟩

abbrev hbmTy0_3 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x60, .f32⟩
  | 6 => ⟨S800000x60, .f32⟩
  | 7 => ⟨S800000x60, .f32⟩
  | 8 => ⟨S_, .f32⟩
  | 9 => ⟨S50000x60, .f32⟩
  | 10 => ⟨S800000x1, .i32⟩
  | 11 => ⟨S50000x60, .f32⟩
  | 12 => ⟨S_, .f32⟩
  | 13 => ⟨S50000x60, .f32⟩
  | 14 => ⟨S50000x60, .f32⟩
  | 15 => ⟨S50000x60, .f32⟩
  | 16 => ⟨S1x60x60, .f32⟩
  | 17 => ⟨S60x60, .f32⟩
  | 18 => ⟨S50000x60, .f32⟩
  | 19 => ⟨S50000x60, .f32⟩
  | 20 => ⟨S50000x60, .f32⟩
  | 21 => ⟨S_, .f32⟩
  | 22 => ⟨S50000x60, .f32⟩
  | 23 => ⟨S50000x60, .f32⟩
  | 24 => ⟨S_, .f32⟩
  | 25 => ⟨S50000x60, .f32⟩
  | 26 => ⟨S50000x60, .f32⟩
  | 27 => ⟨S50000x60, .f32⟩
  | 28 => ⟨S50000x2, .f32⟩
  | 29 => ⟨S50000x1, .f32⟩
  | 30 => ⟨S50000, .f32⟩
  | 31 => ⟨S50000x1, .f32⟩
  | 32 => ⟨S50000, .f32⟩
  | 33 => ⟨S50000, .f32⟩
  | 34 => ⟨S_, .f32⟩
  | 35 => ⟨S50000, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S_, .f32⟩
  | 43 => ⟨S2500x1, .f32⟩
  | 44 => ⟨S50000x1, .i32⟩
  | 45 => ⟨S2500x1, .f32⟩
  | _ => ⟨S50000, .i32⟩

abbrev hbmTy (i : Nat) : BufTy := match i / 128 with
  | 0 => hbmTy0_0 i
  | 1 => hbmTy0_1 i
  | 2 => hbmTy0_2 i
  | 3 => hbmTy0_3 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_v0 : Ref sig .tc := ⟨.hbm, 18, rfl⟩
abbrev main_v1 : Ref sig .tc := ⟨.hbm, 19, rfl⟩
abbrev main_c_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_12 : Ref sig .tc := ⟨.hbm, 75, rfl⟩
abbrev main_v45 : Ref sig .tc := ⟨.hbm, 76, rfl⟩
abbrev main_v46 : Ref sig .tc := ⟨.hbm, 77, rfl⟩
abbrev main_cst_13 : Ref sig .tc := ⟨.hbm, 78, rfl⟩
abbrev main_v47 : Ref sig .tc := ⟨.hbm, 79, rfl⟩
abbrev main_v48 : Ref sig .tc := ⟨.hbm, 80, rfl⟩
abbrev main_cst_14 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_15 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_16 : Ref sig .tc := ⟨.hbm, 101, rfl⟩
abbrev main_cst_17 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_call0_cst : Ref sig .tc := ⟨.hbm, 106, rfl⟩
abbrev main_call0_v3 : Ref sig .tc := ⟨.hbm, 107, rfl⟩
abbrev main_call0_v4 : Ref sig .tc := ⟨.hbm, 108, rfl⟩
abbrev main_call0_cst_0 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_cst_1 : Ref sig .tc := ⟨.hbm, 113, rfl⟩
abbrev main_call0_v8 : Ref sig .tc := ⟨.hbm, 114, rfl⟩
abbrev main_call0_v9 : Ref sig .tc := ⟨.hbm, 115, rfl⟩
abbrev main_call0_v10 : Ref sig .tc := ⟨.hbm, 116, rfl⟩
abbrev main_call0_v11 : Ref sig .tc := ⟨.hbm, 117, rfl⟩
abbrev main_call0_v12 : Ref sig .tc := ⟨.hbm, 118, rfl⟩
abbrev main_call0_v13 : Ref sig .tc := ⟨.hbm, 119, rfl⟩
abbrev main_call0_v14 : Ref sig .tc := ⟨.hbm, 120, rfl⟩
abbrev main_call0_v15 : Ref sig .tc := ⟨.hbm, 121, rfl⟩
abbrev main_call0_v16 : Ref sig .tc := ⟨.hbm, 122, rfl⟩
abbrev main_v67 : Ref sig .tc := ⟨.hbm, 123, rfl⟩
abbrev main_v68 : Ref sig .tc := ⟨.hbm, 124, rfl⟩
abbrev main_cst_18 : Ref sig .tc := ⟨.hbm, 125, rfl⟩
abbrev main_cst_19 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_20 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_cst_21 : Ref sig .tc := ⟨.hbm, 140, rfl⟩
abbrev main_v81 : Ref sig .tc := ⟨.hbm, 141, rfl⟩
abbrev main_v82 : Ref sig .tc := ⟨.hbm, 142, rfl⟩
abbrev main_cst_22 : Ref sig .tc := ⟨.hbm, 143, rfl⟩
abbrev main_call1_v0 : Ref sig .tc := ⟨.hbm, 144, rfl⟩
abbrev main_call1_v1 : Ref sig .tc := ⟨.hbm, 145, rfl⟩
abbrev main_v83 : Ref sig .tc := ⟨.hbm, 146, rfl⟩
abbrev main_cst_23 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_24 : Ref sig .tc := ⟨.hbm, 151, rfl⟩
abbrev main_v87 : Ref sig .tc := ⟨.hbm, 152, rfl⟩
abbrev main_v88 : Ref sig .tc := ⟨.hbm, 153, rfl⟩
abbrev main_cst_25 : Ref sig .tc := ⟨.hbm, 154, rfl⟩
abbrev main_call2_v0 : Ref sig .tc := ⟨.hbm, 155, rfl⟩
abbrev main_call2_v1 : Ref sig .tc := ⟨.hbm, 156, rfl⟩
abbrev main_v89 : Ref sig .tc := ⟨.hbm, 157, rfl⟩
abbrev main_cst_26 : Ref sig .tc := ⟨.hbm, 158, rfl⟩
abbrev main_v90 : Ref sig .tc := ⟨.hbm, 159, rfl⟩
abbrev main_v91 : Ref sig .tc := ⟨.hbm, 160, rfl⟩
abbrev main_c_27 : Ref sig .tc := ⟨.hbm, 161, rfl⟩
abbrev main_v92 : Ref sig .tc := ⟨.hbm, 162, rfl⟩
abbrev main_v93 : Ref sig .tc := ⟨.hbm, 163, rfl⟩
abbrev main_c_28 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_call3_v0 : Ref sig .tc := ⟨.hbm, 170, rfl⟩
abbrev main_call3_v1 : Ref sig .tc := ⟨.hbm, 171, rfl⟩
abbrev main_call3_v2 : Ref sig .tc := ⟨.hbm, 172, rfl⟩
abbrev main_call3_v3 : Ref sig .tc := ⟨.hbm, 173, rfl⟩
abbrev main_call3_v4 : Ref sig .tc := ⟨.hbm, 174, rfl⟩
abbrev main_v99 : Ref sig .tc := ⟨.hbm, 175, rfl⟩
abbrev main_cst_29 : Ref sig .tc := ⟨.hbm, 176, rfl⟩
abbrev main_v100 : Ref sig .tc := ⟨.hbm, 177, rfl⟩
abbrev main_v101 : Ref sig .tc := ⟨.hbm, 178, rfl⟩
abbrev main_cst_30 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_call4_v0 : Ref sig .tc := ⟨.hbm, 192, rfl⟩
abbrev main_call4_v1 : Ref sig .tc := ⟨.hbm, 193, rfl⟩
abbrev main_call4_cst : Ref sig .tc := ⟨.hbm, 194, rfl⟩
abbrev main_call4_v2 : Ref sig .tc := ⟨.hbm, 195, rfl⟩
abbrev main_call4_v3 : Ref sig .tc := ⟨.hbm, 196, rfl⟩
abbrev main_call4_cst_0 : Ref sig .tc := ⟨.hbm, 197, rfl⟩
abbrev main_call4_v4 : Ref sig .tc := ⟨.hbm, 198, rfl⟩
abbrev main_call4_v5 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_call5_v0 : Ref sig .tc := ⟨.hbm, 209, rfl⟩
abbrev main_call5_v1 : Ref sig .tc := ⟨.hbm, 210, rfl⟩
abbrev main_call5_cst : Ref sig .tc := ⟨.hbm, 211, rfl⟩
abbrev main_call5_v2 : Ref sig .tc := ⟨.hbm, 212, rfl⟩
abbrev main_call5_v3 : Ref sig .tc := ⟨.hbm, 213, rfl⟩
abbrev main_call5_cst_0 : Ref sig .tc := ⟨.hbm, 214, rfl⟩
abbrev main_call5_v4 : Ref sig .tc := ⟨.hbm, 215, rfl⟩
abbrev main_call5_v5 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_c_31 : Ref sig .tc := ⟨.hbm, 229, rfl⟩
abbrev main_v135 : Ref sig .tc := ⟨.hbm, 230, rfl⟩
abbrev main_v136 : Ref sig .tc := ⟨.hbm, 231, rfl⟩
abbrev main_c_32 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_cst_33 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_cst_34 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_call6_v0 : Ref sig .tc := ⟨.hbm, 251, rfl⟩
abbrev main_call6_v1 : Ref sig .tc := ⟨.hbm, 252, rfl⟩
abbrev main_call6_cst : Ref sig .tc := ⟨.hbm, 253, rfl⟩
abbrev main_call6_v2 : Ref sig .tc := ⟨.hbm, 254, rfl⟩
abbrev main_call6_v3 : Ref sig .tc := ⟨.hbm, 255, rfl⟩
abbrev main_call6_cst_0 : Ref sig .tc := ⟨.hbm, 256, rfl⟩
abbrev main_call6_v4 : Ref sig .tc := ⟨.hbm, 257, rfl⟩
abbrev main_call6_v5 : Ref sig .tc := ⟨.hbm, 258, rfl⟩
abbrev main_v153 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_v161 : Ref sig .tc := ⟨.hbm, 267, rfl⟩
abbrev main_call7_v0 : Ref sig .tc := ⟨.hbm, 268, rfl⟩
abbrev main_call7_v1 : Ref sig .tc := ⟨.hbm, 269, rfl⟩
abbrev main_call7_cst : Ref sig .tc := ⟨.hbm, 270, rfl⟩
abbrev main_call7_v2 : Ref sig .tc := ⟨.hbm, 271, rfl⟩
abbrev main_call7_v3 : Ref sig .tc := ⟨.hbm, 272, rfl⟩
abbrev main_call7_cst_0 : Ref sig .tc := ⟨.hbm, 273, rfl⟩
abbrev main_call7_v4 : Ref sig .tc := ⟨.hbm, 274, rfl⟩
abbrev main_call7_v5 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_call8_v0 : Ref sig .tc := ⟨.hbm, 285, rfl⟩
abbrev main_call8_v1 : Ref sig .tc := ⟨.hbm, 286, rfl⟩
abbrev main_call8_cst : Ref sig .tc := ⟨.hbm, 287, rfl⟩
abbrev main_call8_v2 : Ref sig .tc := ⟨.hbm, 288, rfl⟩
abbrev main_call8_v3 : Ref sig .tc := ⟨.hbm, 289, rfl⟩
abbrev main_call8_cst_0 : Ref sig .tc := ⟨.hbm, 290, rfl⟩
abbrev main_call8_v4 : Ref sig .tc := ⟨.hbm, 291, rfl⟩
abbrev main_call8_v5 : Ref sig .tc := ⟨.hbm, 292, rfl⟩
abbrev main_v171 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_v176 : Ref sig .tc := ⟨.hbm, 298, rfl⟩
abbrev main_v177 : Ref sig .tc := ⟨.hbm, 299, rfl⟩
abbrev main_v178 : Ref sig .tc := ⟨.hbm, 300, rfl⟩
abbrev main_v179 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_c_35 : Ref sig .tc := ⟨.hbm, 305, rfl⟩
abbrev main_v183 : Ref sig .tc := ⟨.hbm, 306, rfl⟩
abbrev main_v184 : Ref sig .tc := ⟨.hbm, 307, rfl⟩
abbrev main_c_36 : Ref sig .tc := ⟨.hbm, 308, rfl⟩
abbrev main_v185 : Ref sig .tc := ⟨.hbm, 309, rfl⟩
abbrev main_v186 : Ref sig .tc := ⟨.hbm, 310, rfl⟩
abbrev main_v187 : Ref sig .tc := ⟨.hbm, 311, rfl⟩
abbrev main_v188 : Ref sig .tc := ⟨.hbm, 312, rfl⟩
abbrev main_v189 : Ref sig .tc := ⟨.hbm, 313, rfl⟩
abbrev main_v190 : Ref sig .tc := ⟨.hbm, 314, rfl⟩
abbrev main_v191 : Ref sig .tc := ⟨.hbm, 315, rfl⟩
abbrev main_cst_37 : Ref sig .tc := ⟨.hbm, 316, rfl⟩
abbrev main_v192 : Ref sig .tc := ⟨.hbm, 317, rfl⟩
abbrev main_v193 : Ref sig .tc := ⟨.hbm, 318, rfl⟩
abbrev main_v194 : Ref sig .tc := ⟨.hbm, 319, rfl⟩
abbrev main_cst_38 : Ref sig .tc := ⟨.hbm, 320, rfl⟩
abbrev main_v195 : Ref sig .tc := ⟨.hbm, 321, rfl⟩
abbrev main_v196 : Ref sig .tc := ⟨.hbm, 322, rfl⟩
abbrev main_v197 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_call9_v0 : Ref sig .tc := ⟨.hbm, 327, rfl⟩
abbrev main_call9_v1 : Ref sig .tc := ⟨.hbm, 328, rfl⟩
abbrev main_call9_cst : Ref sig .tc := ⟨.hbm, 329, rfl⟩
abbrev main_call9_v2 : Ref sig .tc := ⟨.hbm, 330, rfl⟩
abbrev main_call9_v3 : Ref sig .tc := ⟨.hbm, 331, rfl⟩
abbrev main_call9_cst_0 : Ref sig .tc := ⟨.hbm, 332, rfl⟩
abbrev main_call9_v4 : Ref sig .tc := ⟨.hbm, 333, rfl⟩
abbrev main_call9_v5 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_call10_v0 : Ref sig .tc := ⟨.hbm, 344, rfl⟩
abbrev main_call10_v1 : Ref sig .tc := ⟨.hbm, 345, rfl⟩
abbrev main_call10_cst : Ref sig .tc := ⟨.hbm, 346, rfl⟩
abbrev main_call10_v2 : Ref sig .tc := ⟨.hbm, 347, rfl⟩
abbrev main_call10_v3 : Ref sig .tc := ⟨.hbm, 348, rfl⟩
abbrev main_call10_cst_0 : Ref sig .tc := ⟨.hbm, 349, rfl⟩
abbrev main_call10_v4 : Ref sig .tc := ⟨.hbm, 350, rfl⟩
abbrev main_call10_v5 : Ref sig .tc := ⟨.hbm, 351, rfl⟩
abbrev main_v210 : Ref sig .tc := ⟨.hbm, 352, rfl⟩
abbrev main_v211 : Ref sig .tc := ⟨.hbm, 353, rfl⟩
abbrev main_v212 : Ref sig .tc := ⟨.hbm, 354, rfl⟩
abbrev main_v213 : Ref sig .tc := ⟨.hbm, 355, rfl⟩
abbrev main_v214 : Ref sig .tc := ⟨.hbm, 356, rfl⟩
abbrev main_v215 : Ref sig .tc := ⟨.hbm, 357, rfl⟩
abbrev main_v216 : Ref sig .tc := ⟨.hbm, 358, rfl⟩
abbrev main_v217 : Ref sig .tc := ⟨.hbm, 359, rfl⟩
abbrev main_v218 : Ref sig .tc := ⟨.hbm, 360, rfl⟩
abbrev main_call11_v0 : Ref sig .tc := ⟨.hbm, 361, rfl⟩
abbrev main_call11_v1 : Ref sig .tc := ⟨.hbm, 362, rfl⟩
abbrev main_call11_cst : Ref sig .tc := ⟨.hbm, 363, rfl⟩
abbrev main_call11_v2 : Ref sig .tc := ⟨.hbm, 364, rfl⟩
abbrev main_call11_v3 : Ref sig .tc := ⟨.hbm, 365, rfl⟩
abbrev main_call11_cst_0 : Ref sig .tc := ⟨.hbm, 366, rfl⟩
abbrev main_call11_v4 : Ref sig .tc := ⟨.hbm, 367, rfl⟩
abbrev main_call11_v5 : Ref sig .tc := ⟨.hbm, 368, rfl⟩
abbrev main_v219 : Ref sig .tc := ⟨.hbm, 369, rfl⟩
abbrev main_v220 : Ref sig .tc := ⟨.hbm, 370, rfl⟩
abbrev main_v221 : Ref sig .tc := ⟨.hbm, 371, rfl⟩
abbrev main_v222 : Ref sig .tc := ⟨.hbm, 372, rfl⟩
abbrev main_v223 : Ref sig .tc := ⟨.hbm, 373, rfl⟩
abbrev main_v224 : Ref sig .tc := ⟨.hbm, 374, rfl⟩
abbrev main_v225 : Ref sig .tc := ⟨.hbm, 375, rfl⟩
abbrev main_v226 : Ref sig .tc := ⟨.hbm, 376, rfl⟩
abbrev main_v227 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_c_39 : Ref sig .tc := ⟨.hbm, 381, rfl⟩
abbrev main_v231 : Ref sig .tc := ⟨.hbm, 382, rfl⟩
abbrev main_v232 : Ref sig .tc := ⟨.hbm, 383, rfl⟩
abbrev main_c_40 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_v236 : Ref sig .tc := ⟨.hbm, 388, rfl⟩
abbrev main_v237 : Ref sig .tc := ⟨.hbm, 389, rfl⟩
abbrev main_v238 : Ref sig .tc := ⟨.hbm, 390, rfl⟩
abbrev main_v239 : Ref sig .tc := ⟨.hbm, 391, rfl⟩
abbrev main_cst_41 : Ref sig .tc := ⟨.hbm, 392, rfl⟩
abbrev main_v240 : Ref sig .tc := ⟨.hbm, 393, rfl⟩
abbrev main_v241 : Ref sig .tc := ⟨.hbm, 394, rfl⟩
abbrev main_v242 : Ref sig .tc := ⟨.hbm, 395, rfl⟩
abbrev main_cst_42 : Ref sig .tc := ⟨.hbm, 396, rfl⟩
abbrev main_v243 : Ref sig .tc := ⟨.hbm, 397, rfl⟩
abbrev main_v244 : Ref sig .tc := ⟨.hbm, 398, rfl⟩
abbrev main_v245 : Ref sig .tc := ⟨.hbm, 399, rfl⟩
abbrev main_v246 : Ref sig .tc := ⟨.hbm, 400, rfl⟩
abbrev main_v247 : Ref sig .tc := ⟨.hbm, 401, rfl⟩
abbrev main_v248 : Ref sig .tc := ⟨.hbm, 402, rfl⟩
abbrev main_call12_v0 : Ref sig .tc := ⟨.hbm, 403, rfl⟩
abbrev main_call12_v1 : Ref sig .tc := ⟨.hbm, 404, rfl⟩
abbrev main_call12_cst : Ref sig .tc := ⟨.hbm, 405, rfl⟩
abbrev main_call12_v2 : Ref sig .tc := ⟨.hbm, 406, rfl⟩
abbrev main_call12_v3 : Ref sig .tc := ⟨.hbm, 407, rfl⟩
abbrev main_call12_cst_0 : Ref sig .tc := ⟨.hbm, 408, rfl⟩
abbrev main_call12_v4 : Ref sig .tc := ⟨.hbm, 409, rfl⟩
abbrev main_call12_v5 : Ref sig .tc := ⟨.hbm, 410, rfl⟩
abbrev main_v249 : Ref sig .tc := ⟨.hbm, 411, rfl⟩
abbrev main_v250 : Ref sig .tc := ⟨.hbm, 412, rfl⟩
abbrev main_v251 : Ref sig .tc := ⟨.hbm, 413, rfl⟩
abbrev main_v252 : Ref sig .tc := ⟨.hbm, 414, rfl⟩
abbrev main_v253 : Ref sig .tc := ⟨.hbm, 415, rfl⟩
abbrev main_v254 : Ref sig .tc := ⟨.hbm, 416, rfl⟩
abbrev main_v255 : Ref sig .tc := ⟨.hbm, 417, rfl⟩
abbrev main_cst_43 : Ref sig .tc := ⟨.hbm, 418, rfl⟩
abbrev main_v256 : Ref sig .tc := ⟨.hbm, 419, rfl⟩
abbrev main_v257 : Ref sig .tc := ⟨.hbm, 420, rfl⟩
abbrev main_v258 : Ref sig .tc := ⟨.hbm, 421, rfl⟩
abbrev main_cst_44 : Ref sig .tc := ⟨.hbm, 422, rfl⟩
abbrev main_v259 : Ref sig .tc := ⟨.hbm, 423, rfl⟩
abbrev main_v260 : Ref sig .tc := ⟨.hbm, 424, rfl⟩
abbrev main_v261 : Ref sig .tc := ⟨.hbm, 425, rfl⟩
abbrev main_cst_45 : Ref sig .tc := ⟨.hbm, 426, rfl⟩
abbrev main_v262 : Ref sig .tc := ⟨.hbm, 427, rfl⟩
abbrev main_v263 : Ref sig .tc := ⟨.hbm, 428, rfl⟩
abbrev main_v264 : Ref sig .tc := ⟨.hbm, 429, rfl⟩

abbrev nD : Nat := 1
abbrev τ : Topo := Topo.v7x

variable {F : FTy → Type} [FloatOps F]
-- ==== Proof.KernelRun.lean ====
/- The kernel's run read at every buffer of the device's memory: it ends holding the contents after the last stretch. -/
module
public import proofs.«01_k».proof.Proof.Gen.KernelIdeal.Frame

@[expose] public section

set_option maxRecDepth 16384

noncomputable section

namespace Cert.Net.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the kernel's program terminates with every
    buffer of the device's memory at the contents after the last stretch of host operations. -/
theorem all_buffers : θ_run defs (onTc (τ := τ) (main (F := F))) ⟨m, fun _ => 0, ρ⟩ (fun r =>
      ∀ c : Dev nD, ∀ b ∈ Pipeline.ucRefs τ sig, r.2.mem (((c : Thread nD τ)).1, b) = W15 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htok; imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl,
        fun _ => .rfl, fun c => ?_⟩
      dsimp only [Pipeline.Seg.post, hseg, Pipeline.HostSeg.ofOps]
      iintro ⟨Hbufs, Hreg, Howes⟩
      isplitl [Hbufs Hreg]
      · isplitl [Hbufs]; · iexact Hbufs
        iexact Hreg
      iexact Howes)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W15 m ρ c b)
    (hfin := fun c s' => by
      iintro ⟨⟨Hbufs, -⟩, Hstate⟩
      unfold StableHlo.held
      imodintro
      iapply (pointsTo_read_all (Pipeline.ucRefs τ sig) (fun b => (((c : Thread nD τ)).1, b)) (W15 m ρ c) s')
      isplitl [Hbufs] <;> iassumption)
    (hQ := fun s h hz => h)

end Cert.Net.Run
-- ==== Proof.Edge.lean ====
/- The message one edge sends in one layer, entry by entry, and the kernel body's composed payload
read as that message. Everything is over the extended reals, where the casts are the identity. -/
module
public import proofs.«01_k».proof.Proof.Gen.KernelIdeal.Skeleton
public import Idealize.ShloMosaic.Lib.Pointwise

@[expose] public section

set_option maxRecDepth 16384

noncomputable section

namespace Cert.Edge

open Idealize.ShloMosaic Cert.KernelIdeal Cert.KernelIdeal.Gen

/-- The number an f32 literal writes. -/
abbrev lit (b : BitVec 32) : EReal := Ideal.ofBits FTy.f32 b

/-- `x · σ(x)`. -/
def silu (x : EReal) : EReal := x * Ideal.logistic x

/-- Distance of a length from the centre of the `i`-th basis function, in units of its width. -/
def offset (len : EReal) (i : Fin 50) : EReal :=
  Ideal.div len ((10 / 51 : ℝ) : EReal) - ((((i : ℕ) : ℝ) : EReal) + 1)

/-- The smooth bump of finite support, scaled by the square root of the number of functions. -/
def bump (u : EReal) : EReal :=
  (if FloatOps.absf (F := Ideal) (φ := .f32) u < 1 then
      lit 1090973674#32 * Ideal.exp (Ideal.div 1
        (if FloatOps.absf (F := Ideal) (φ := .f32) u < 1 then u * u - 1 else lit 3212836864#32))
    else 0) * lit 1088570928#32

/-- The nine real spherical harmonics of degree at most two at the direction `(x, y, z)`. -/
def harmonic (x y z : EReal) : Fin 9 → EReal :=
  ![1, lit 1071494103#32 * x, lit 1071494103#32 * y, lit 1071494103#32 * z,
    lit 1081597686#32 * x * y, lit 1081597686#32 * y * z,
    lit 1066343357#32 * (lit 1077936128#32 * z * z - 1),
    lit 1081597686#32 * x * z, lit 1073209078#32 * (x * x - y * y)]

/-- The weights one layer applies to an edge. -/
structure Layer where
  w1 : Fin 50 → Fin 128 → EReal
  b1 : Fin 128 → EReal
  w2 : Fin 128 → Fin 128 → EReal
  b2 : Fin 128 → EReal
  w3 : Fin 128 → Fin 60 → EReal
  b3 : Fin 60 → EReal
  ws : Fin 9 → Fin 60 → EReal

/-- First hidden vector of the radial network, before its activation. -/
def hidden1 (L : Layer) (len : EReal) (p : Fin 128) : EReal :=
  (∑ i, bump (offset len i) * L.w1 i p) + L.b1 p

/-- Second hidden vector of the radial network, before its activation. -/
def hidden2 (L : Layer) (len : EReal) (q : Fin 128) : EReal :=
  (∑ p, silu (hidden1 L len p) * L.w2 p q) + L.b2 q

/-- The message: the sender's feature, times the weighted harmonics, times the radial weight.
`g` lists the unit direction and the length of the edge. -/
def message (L : Layer) (g : Fin 4 → EReal) (v : EReal) (c : Fin 60) : EReal :=
  v * (∑ j, harmonic (g 0) (g 1) (g 2) j * L.ws j c)
    * ((∑ q, silu (hidden2 L (g 3) q) * L.w3 q c) + L.b3 c)

/-- The layer whose weights a block's arrays hold. -/
abbrev layerOf (w1 : Vec Ideal S50x128 .bf16) (b1 : Vec Ideal S1x128 .f32)
    (w2 : Vec Ideal S128x128 .bf16) (b2 : Vec Ideal S1x128 .f32)
    (w3 : Vec Ideal S128x60 .bf16) (b3 : Vec Ideal S1x60 .f32) (ws : Vec Ideal S9x60 .bf16) : Layer where
  w1 i p := w1 (ix2 i p)
  b1 p := b1 (ix2 0 p)
  w2 p q := w2 (ix2 p q)
  b2 q := b2 (ix2 0 q)
  w3 q c := w3 (ix2 q c)
  b3 c := b3 (ix2 0 c)
  ws j c := ws (ix2 j c)

/-- All edges' messages: entry `(e, c)` is the message of edge `e` at feature `c`. -/
def messages (L : Layer) (geom : Vec Ideal S800000x4 .f32) (xs : Vec Ideal S800000x60 .f32) :
    Vec Ideal S800000x60 .f32 :=
  fun i => message L (fun a => geom (ix2 (i 0) a)) (xs i) (i 1)

/-- The table of harmonics the body builds, entry by entry. -/
theorem pay3_entry (g : Vec Ideal S4000x4 .f32) (r : Fin 4000) (j : Fin 9) :
    k0_pay3 (F := Ideal) g (ix2 r j)
      = harmonic (g (ix2 r 0)) (g (ix2 r 1)) (g (ix2 r 2)) j := by
  pointwise [k0_pay3, k0_pay2]
  fin_cases j <;> rfl

/-- The offsets the body builds, entry by entry. -/
theorem pay4_entry (g : Vec Ideal S4000x4 .f32) (r : Fin 4000) (i : Fin 50) :
    k0_pay4 (F := Ideal) g (ix2 r i) = offset (g (ix2 r 3)) i := by
  pointwise [k0_pay4, k0_pay2, offset]
  have h : (FloatOps.sitofp (F := Ideal) FTy.f32 (BitVec.ofNat 32 (i : ℕ)) : EReal) = (((i : ℕ) : ℝ) : EReal) := by
    show (((BitVec.ofNat 32 (i : ℕ)).toInt : ℝ) : EReal) = _
    have : ∀ i : Fin 50, (BitVec.ofNat 32 (i : ℕ)).toInt = ((i : ℕ) : ℤ) := by decide
    rw [this, Int.cast_natCast]
  rw [h]; rfl

/-- The radial network the body runs, before its last bias, entry by entry. -/
theorem pay6_entry (u : Vec Ideal S4000x50 .f32) (w1 : Vec Ideal S50x128 .bf16) (b1 : Vec Ideal S1x128 .f32)
    (w2 : Vec Ideal S128x128 .bf16) (b2 : Vec Ideal S1x128 .f32) (w3 : Vec Ideal S128x60 .bf16)
    (r : Fin 4000) (c : Fin 60) :
    k0_pay6 (F := Ideal) u (absf u) w1 b1 w2 b2 w3 (ix2 r c)
      = ∑ q, silu ((∑ p, silu ((∑ i, bump (u (ix2 r i)) * w1 (ix2 i p)) + b1 (ix2 0 p))
          * w2 (ix2 p q)) + b2 (ix2 0 q)) * w3 (ix2 q c) := by
  pointwise [k0_pay6]
  rfl

/-- The block a grid point stores, entry by entry: the message of its row. -/
theorem body_entry (g : Vec Ideal S4000x4 .f32) (xs : Vec Ideal S4000x60 .f32)
    (w1 : Vec Ideal S50x128 .bf16) (b1 : Vec Ideal S1x128 .f32)
    (w2 : Vec Ideal S128x128 .bf16) (b2 : Vec Ideal S1x128 .f32)
    (w3 : Vec Ideal S128x60 .bf16) (b3 : Vec Ideal S1x60 .f32) (ws : Vec Ideal S9x60 .bf16)
    (r : Fin 4000) (c : Fin 60) :
    k0_pay1 (F := Ideal) (k0_pay3 g) (k0_pay6 (k0_pay4 g) (k0_pay5 g) w1 b1 w2 b2 w3) b3 ws xs (ix2 r c)
      = message (layerOf w1 b1 w2 b2 w3 b3 ws) (fun a => g (ix2 r a)) (xs (ix2 r c)) c := by
  have h5 : k0_pay5 (F := Ideal) g = absf (k0_pay4 (F := Ideal) g) := rfl
  have h1 : ∀ (s : FVec Ideal S4000x9 .f32) (h : FVec Ideal S4000x60 .f32),
      k0_pay1 (F := Ideal) s h b3 ws xs (ix2 r c)
        = (xs (ix2 r c) * ∑ j, s (ix2 r j) * ws (ix2 j c))
          * (h (ix2 r c) + b3 (ix2 0 c)) := by
    intro s h
    pointwise [k0_pay1]
  rw [h5, h1, pay6_entry]
  simp only [pay3_entry, pay4_entry]
  rfl

end Cert.Edge
-- ==== Proof.Net.lean ====
/- The network in whole arrays: the geometry of the edges, the embedding of the nodes, one layer's step and the
readout, each a function of the arrays it reads; and the layer's weights read off the stacked arguments. -/
module
public import proofs.«01_k».proof.Proof.Edge
public import proofs.«01_k».proof.Proof.Gen.KernelIdeal.Launch

@[expose] public section

set_option maxRecDepth 16384

noncomputable section

namespace Cert.Net

open Idealize.ShloMosaic Cert.KernelIdeal Cert.KernelIdeal.Gen Cert.Edge

/-- Node numbers as gather indices, a negative one counted from the end. -/
def nodeIndex (s : Vec Ideal S800000 .i32) : Vec Ideal S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- From receiver to sender, per edge. -/
def edgeVec (pos : Vec Ideal S50000x3 .f32) (src dst : Vec Ideal S800000 .i32) : Vec Ideal S800000x3 .f32 :=
  subf (F := Ideal) (φ := .f32) (Host.gather gather_S50000x3_S800000x1_S800000x3_1_0_n_n_0_1_13 pos (nodeIndex src))
    (Host.gather gather_S50000x3_S800000x1_S800000x3_1_0_n_n_0_1_13 pos (nodeIndex dst))

/-- The edges' lengths. -/
def edgeLen (pos : Vec Ideal S50000x3 .f32) (src dst : Vec Ideal S800000 .i32) : Vec Ideal S800000 .f32 :=
  Host.sqrt (F := Ideal) (φ := .f32) (addf (Host.reduceAdd (mulf (edgeVec pos src dst) (edgeVec pos src dst)) (constant S_ .f32 0x00000000#32)
    reducesTo_S800000x3_S800000_d1 h_S_) (broadcastInDim S800000 ![] bcast_S_S800000 (constant S_ .f32 0x2B8CBCCC#32)))

/-- The edges' unit directions. -/
def edgeDir (pos : Vec Ideal S50000x3 .f32) (src dst : Vec Ideal S800000 .i32) : Vec Ideal S800000x3 .f32 :=
  Host.divf (F := Ideal) (φ := .f32) (edgeVec pos src dst)
    (broadcastInDim S800000x3 ![0, 1] bcast_S800000x1_S800000x3_0_1
      (broadcastInDim S800000x1 ![0] bcast_S800000_S800000x1_0 (edgeLen pos src dst)))

/-- The edges' directions and lengths side by side. -/
def geometry (pos : Vec Ideal S50000x3 .f32) (src dst : Vec Ideal S800000 .i32) : Vec Ideal S800000x4 .f32 :=
  concatenate S800000x4 1 [⟨S800000x3, edgeDir pos src dst⟩,
    ⟨S800000x1, broadcastInDim S800000x1 ![0] bcast_S800000_S800000x1_0 (edgeLen pos src dst)⟩]
    concatenates_S800000x3_S800000x1_S800000x4_d1

/-- The nodes' classes, looked up by atomic number. -/
def nodeClass (z : Vec Ideal S50000 .i32) : Vec Ideal S50000 .i32 :=
  Host.gather gather_S10_S50000x1_S50000_n_0_n_n_0_1_1 (fun i => lit0 (S10.rowMajor i))
    (broadcastInDim S50000x1 ![0] bcast_S50000_S50000x1_0
      (select (cmpi .slt z (broadcastInDim S50000 ![] bcast_S_S50000 (constantI S_ 32 0#32)))
        (addi z (broadcastInDim S50000 ![] bcast_S_S50000 (constantI S_ 32 10#32))) z))

/-- The classes as indicator rows. -/
def oneHot (k : Vec Ideal S50000 .i32) : Vec Ideal S50000x5 .f32 :=
  uitofp (F := Ideal) .f32 (cmpi .eq
    (broadcastInDim S50000x5 ![0, 1] bcast_S50000x1_S50000x5_0_1 (broadcastInDim S50000x1 ![0] bcast_S50000_S50000x1_0 k))
    (broadcastInDim S50000x5 ![0, 1] bcast_S1x5_S50000x5_0_1 (iotaInDim S1x5 32 1)))

/-- The nodes' attributes times their weights. -/
def attributes (h : Vec Ideal S50000x5 .f32) (wa : Vec Ideal S5x60 .f32) : Vec Ideal S50000x60 .f32 :=
  Host.dotGeneral (F := Ideal) (φ₁ := .f32) (φ₂ := .f32) dot_S50000x5_S5x60_S50000x60_1_0_0_1_n_n none
    (mulf h (broadcastInDim S50000x5 ![] bcast_S_S50000x5 (constant S_ .f32 0x400F1BBD#32))) wa

/-- The nodes' first features: the embedding row, summed over its one row, on every node, plus the attributes. -/
def embed (h : Vec Ideal S50000x5 .f32) (we : Vec Ideal S1x60 .f32) (wa : Vec Ideal S5x60 .f32) : Vec Ideal S50000x60 .f32 :=
  addf (F := Ideal) (φ := .f32) (broadcastInDim S50000x60 ![0, 1] bcast_S1x60_S50000x60_0_1
      (broadcastInDim S1x60 ![1] bcast_S60_S1x60_1
        (mulf (broadcastInDim S60 ![] bcast_S_S60 (constant S_ .f32 0x3F800000#32))
          (Host.reduceAdd we (constant S_ .f32 0x00000000#32) reducesTo_S1x60_S60_d0 h_S_))))
    (attributes h wa)

/-- The senders' features. -/
def senders (x : Vec Ideal S50000x60 .f32) (src : Vec Ideal S800000 .i32) : Vec Ideal S800000x60 .f32 :=
  Host.gather gather_S50000x60_S800000x1_S800000x60_1_0_n_n_0_1_160 x (nodeIndex src)

/-- A node's features after the messages are summed at their receivers, scaled, added and mixed. -/
def mixed (x : Vec Ideal S50000x60 .f32) (msg : Vec Ideal S800000x60 .f32) (dst : Vec Ideal S800000 .i32)
    (w : Vec Ideal S60x60 .f32) : Vec Ideal S50000x60 .f32 :=
  Host.dotGeneral (F := Ideal) (φ₁ := .f32) (φ₂ := .f32) dot_S50000x60_S60x60_S50000x60_1_0_0_1_n_n none
    (addf x (Host.divf (Host.scatterAdd scatter_S50000x60_S800000x1_S800000x60_1_0_0_1
        (broadcastInDim S50000x60 ![] bcast_S_S50000x60 (constant S_ .f32 0x00000000#32))
        (broadcastInDim S800000x1 ![0] bcast_S800000_S800000x1_0 dst) msg)
      (broadcastInDim S50000x60 ![] bcast_S_S50000x60 (constant S_ .f32 0x408F1BBD#32)))) w

/-- The activation of the nodes' features. -/
def activate (y : Vec Ideal S50000x60 .f32) : Vec Ideal S50000x60 .f32 :=
  mulf (F := Ideal) (φ := .f32) y (Host.divf (broadcastInDim S50000x60 ![] bcast_S_S50000x60 (constant S_ .f32 0x3F800000#32))
    (addf (broadcastInDim S50000x60 ![] bcast_S_S50000x60 (constant S_ .f32 0x3F800000#32)) (Host.exp (Host.negf y))))

/-- The nodes' outputs summed per graph. -/
def readout (x : Vec Ideal S50000x60 .f32) (wo : Vec Ideal S60x2 .f32) (batch : Vec Ideal S50000 .i32) :
    Vec Ideal S2500x1 .f32 :=
  let o : Vec Ideal S50000x2 .f32 := Host.dotGeneral (F := Ideal) (φ₁ := .f32) (φ₂ := .f32) dot_S50000x60_S60x2_S50000x2_1_0_0_1_n_n none x wo
  let q : Vec Ideal S50000 .f32 := shapeCast _ (extractStridedSlice S50000x1 ![0, 1] o slices_S50000x2_S50000x1_0_1) shapeCasts_S50000x1_S50000
  Host.scatterAdd (F := Ideal) (φ := .f32) scatter_S2500x1_S50000x1_S50000x1_1_0_0_1
    (broadcastInDim S2500x1 ![] bcast_S_S2500x1 (constant S_ .f32 0x00000000#32))
    (broadcastInDim S50000x1 ![0] bcast_S50000_S50000x1_0 batch)
    (broadcastInDim S50000x1 ![0] bcast_S50000_S50000x1_0
      (Host.divf (addf (shapeCast _ (extractStridedSlice S50000x1 ![0, 0] o slices_S50000x2_S50000x1_0_0) shapeCasts_S50000x1_S50000)
          (mulf (broadcastInDim S50000 ![] bcast_S_S50000 (constant S_ .f32 0x3F000000#32)) (mulf q q)))
        (broadcastInDim S50000 ![] bcast_S_S50000 (constant S_ .f32 0x408F1BBD#32))))

/-- The weights of all layers, as the arguments stack them. -/
structure Stack where
  a7 : Vec Ideal S3x50x128 .f32
  a8 : Vec Ideal S3x128 .f32
  a9 : Vec Ideal S3x128x128 .f32
  a10 : Vec Ideal S3x128 .f32
  a11 : Vec Ideal S3x128x60 .f32
  a12 : Vec Ideal S3x60 .f32
  a13 : Vec Ideal S3x9x60 .f32
  a14 : Vec Ideal S3x60x60 .f32

/-- The weights layer `k` applies to an edge. -/
def Stack.layer (A : Stack) (k : Fin 3) : Layer where
  w1 i p := A.a7 (ix3 k i p)
  b1 p := A.a8 (ix2 k p)
  w2 p q := A.a9 (ix3 k p q)
  b2 q := A.a10 (ix2 k q)
  w3 q c := A.a11 (ix3 k q c)
  b3 c := A.a12 (ix2 k c)
  ws j c := A.a13 (ix3 k j c)

/-- The weights layer `k` mixes a node's features with. -/
def Stack.self (A : Stack) (k : Fin 3) : Vec Ideal S60x60 .f32 := fun i => A.a14 (ix3 k (i 0) (i 1))

/-- One layer: messages from the senders, summed, mixed, activated. -/
def step (A : Stack) (pos : Vec Ideal S50000x3 .f32) (src dst : Vec Ideal S800000 .i32) (k : Fin 3)
    (x : Vec Ideal S50000x60 .f32) : Vec Ideal S50000x60 .f32 :=
  activate (mixed x (messages (A.layer k) (geometry pos src dst) (senders x src)) dst (A.self k))

/-- The whole network. -/
def network (z : Vec Ideal S50000 .i32) (pos : Vec Ideal S50000x3 .f32) (batch : Vec Ideal S50000 .i32)
    (src dst : Vec Ideal S800000 .i32) (we : Vec Ideal S1x60 .f32) (wa : Vec Ideal S5x60 .f32) (A : Stack)
    (wo : Vec Ideal S60x2 .f32) : Vec Ideal S2500x1 .f32 :=
  readout (step A pos src dst 2 (step A pos src dst 1 (step A pos src dst 0 (embed (oneHot (nodeClass z)) we wa)))) wo batch

end Cert.Net
-- ==== Proof.Slices.lean ====
/- One layer's part of a stacked weight, entry by entry, at whichever layer. -/
module
public import proofs.«01_k».proof.Proof.Net
public import Idealize.ShloMosaic.Lib.Pipeline.Value

@[expose] public section

set_option maxRecDepth 16384

noncomputable section

namespace Cert.Net

open Idealize.ShloMosaic Cert.KernelIdeal Cert.KernelIdeal.Gen Cert.Edge

variable {e : EltTy} (k : Fin 3)

/-- A matrix of a stack of three, entry by entry. -/
theorem matrix_entry {n p : Nat} (x : Vec Ideal ⟨3, ![3, n, p]⟩ e)
    (h : (⟨3, ![3, n, p]⟩ : Shape).Slices ![(k : Nat), 0, 0] ⟨3, ![1, n, p]⟩)
    (h' : (⟨3, ![1, n, p]⟩ : Shape).ShapeCasts ⟨2, ![n, p]⟩) (a : Fin n) (b : Fin p) :
    shapeCast (⟨2, ![n, p]⟩ : Shape) (extractStridedSlice (⟨3, ![1, n, p]⟩ : Shape) ![(k : Nat), 0, 0] x h) h' (ix2 a b) = x (ix3 k a b) := by
  refine (shapeCast_dropUnit_apply ![n, p] _ h' (ix2 a b)).trans ?_
  refine extractStridedSlice_apply _ x h _ _ fun d => ?_
  fin_cases d
  · rfl
  · exact (Nat.zero_add _).symm
  · exact (Nat.zero_add _).symm

/-- A vector of a stack of three, entry by entry. -/
theorem vector_entry {n : Nat} (x : Vec Ideal ⟨2, ![3, n]⟩ e)
    (h : (⟨2, ![3, n]⟩ : Shape).Slices ![(k : Nat), 0] ⟨2, ![1, n]⟩)
    (h' : (⟨2, ![1, n]⟩ : Shape).ShapeCasts ⟨1, ![n]⟩) (a : Fin n) :
    shapeCast (⟨1, ![n]⟩ : Shape) (extractStridedSlice (⟨2, ![1, n]⟩ : Shape) ![(k : Nat), 0] x h) h' (ix1 a) = x (ix2 k a) := by
  refine (shapeCast_dropUnit_apply ![n] _ h' (ix1 a)).trans ?_
  refine extractStridedSlice_apply _ x h _ _ fun d => ?_
  fin_cases d
  · rfl
  · exact (Nat.zero_add _).symm

/-- A vector made the one row of a matrix, entry by entry. -/
theorem row_entry {n : Nat} (x : Vec Ideal ⟨1, ![n]⟩ e) (h : (⟨1, ![n]⟩ : Shape).ShapeCasts ⟨2, ![1, n]⟩) (a : Fin n) :
    shapeCast (⟨2, ![1, n]⟩ : Shape) x h (ix2 0 a) = x (ix1 a) :=
  (shapeCast_addUnit_apply ![n] x h (ix2 0 a)).trans (congrArg x (funext fun d => by fin_cases d; rfl))

/-- The arrays the kernel is launched with at layer `k`, cut out of the stacked arguments, hold the layer's weights. -/
theorem layerOf_slices (A : Stack)
    (h7 : S3x50x128.Slices ![(k : Nat), 0, 0] S1x50x128) (h8 : S3x128.Slices ![(k : Nat), 0] S1x128)
    (h9 : S3x128x128.Slices ![(k : Nat), 0, 0] S1x128x128) (h10 : S3x128.Slices ![(k : Nat), 0] S1x128)
    (h11 : S3x128x60.Slices ![(k : Nat), 0, 0] S1x128x60) (h12 : S3x60.Slices ![(k : Nat), 0] S1x60)
    (h13 : S3x9x60.Slices ![(k : Nat), 0, 0] S1x9x60) :
    layerOf
      (shapeCast S50x128 (extractStridedSlice S1x50x128 ![(k : Nat), 0, 0] (truncf (F := Ideal) .bf16 A.a7 bitsLt_bf16_f32) h7) shapeCasts_S1x50x128_S50x128)
      (shapeCast S1x128 (shapeCast S128 (extractStridedSlice S1x128 ![(k : Nat), 0] A.a8 h8) shapeCasts_S1x128_S128) shapeCasts_S128_S1x128)
      (shapeCast S128x128 (extractStridedSlice S1x128x128 ![(k : Nat), 0, 0] (truncf (F := Ideal) .bf16 A.a9 bitsLt_bf16_f32) h9) shapeCasts_S1x128x128_S128x128)
      (shapeCast S1x128 (shapeCast S128 (extractStridedSlice S1x128 ![(k : Nat), 0] A.a10 h10) shapeCasts_S1x128_S128) shapeCasts_S128_S1x128)
      (shapeCast S128x60 (extractStridedSlice S1x128x60 ![(k : Nat), 0, 0] (truncf (F := Ideal) .bf16 A.a11 bitsLt_bf16_f32) h11) shapeCasts_S1x128x60_S128x60)
      (shapeCast S1x60 (shapeCast S60 (extractStridedSlice S1x60 ![(k : Nat), 0] A.a12 h12) shapeCasts_S1x60_S60) shapeCasts_S60_S1x60)
      (shapeCast S9x60 (extractStridedSlice S1x9x60 ![(k : Nat), 0, 0] (truncf (F := Ideal) .bf16 A.a13 bitsLt_bf16_f32) h13) shapeCasts_S1x9x60_S9x60)
      = A.layer k := by
  unfold layerOf Stack.layer
  congr 1
  · exact funext fun i => funext fun p => matrix_entry k _ h7 _ i p
  · exact funext fun p => (row_entry _ _ p).trans (vector_entry k _ h8 _ p)
  · exact funext fun p => funext fun q => matrix_entry k _ h9 _ p q
  · exact funext fun q => (row_entry _ _ q).trans (vector_entry k _ h10 _ q)
  · exact funext fun q => funext fun c => matrix_entry k _ h11 _ q c
  · exact funext fun c => (row_entry _ _ c).trans (vector_entry k _ h12 _ c)
  · exact funext fun j => funext fun c => matrix_entry k _ h13 _ j c

/-- The matrix a layer mixes features with, cut out of the stacked argument. -/
theorem self_slice (A : Stack) (h : S3x60x60.Slices ![(k : Nat), 0, 0] S1x60x60) :
    shapeCast S60x60 (extractStridedSlice S1x60x60 ![(k : Nat), 0, 0] A.a14 h) shapeCasts_S1x60x60_S60x60 = A.self k := by
  funext i
  rw [eq_ix2 i]
  exact matrix_entry k _ h _ _ _

end Cert.Net
-- ==== Proof.Host.lean ====
/- What each stretch of the kernel's host operations leaves in the buffers the next part reads, in the network's terms,
from any contents before the stretch. -/
module
public import proofs.«01_k».proof.Proof.Slices
public import Idealize.ShloMosaic.Lib.StableHlo.RunRead

@[expose] public section

set_option maxRecDepth 16384

noncomputable section

namespace Cert.Net.Host

open Idealize.ShloMosaic Idealize.ShloMosaic.TcCoe Idealize.ShloMosaic.StableHlo
open Cert.KernelIdeal Cert.KernelIdeal.Gen Cert.Edge

variable (V : Valuation τ sig (Elt Ideal))

/-- The edges' geometry. -/
theorem geometry_of : after (hostOps0 (F := Ideal)) V main_v24
    = geometry (V main_arg1) (V main_arg3) (V main_arg4) := by
  after_reads_simp
  rfl

/-- The nodes' classes. -/
theorem class_of : after (hostOps0 (F := Ideal)) V main_v31 = nodeClass (V main_arg0) := by
  after_reads_simp
  rfl

/-- The classes' indicator rows. -/
theorem oneHot_of : after (hostOps0_1 (F := Ideal)) V main_v32 = oneHot (V main_v31) := by
  after_reads_simp
  rfl

/-- The nodes' first features. -/
theorem embed_of : after (hostOps0_2 (F := Ideal)) V main_v41
    = embed (V main_v32) (V main_arg5) (V main_arg6) := by
  after_reads_simp
  rfl

/-- The first senders' features. -/
theorem senders0_of : after (hostOps0_2 (F := Ideal)) V main_v52
    = senders (embed (V main_v32) (V main_arg5) (V main_arg6)) (V main_arg3) := by
  after_reads_simp
  rfl

/-- The narrow copy of argument 7. -/
theorem narrow7_of : after (hostOps0_2 (F := Ideal)) V main_v42 = truncf (F := Ideal) (s := S3x50x128) .bf16 (V main_arg7) bitsLt_bf16_f32 := by
  after_reads_simp

/-- The narrow copy of argument 9. -/
theorem narrow9_of : after (hostOps0_2 (F := Ideal)) V main_v43 = truncf (F := Ideal) (s := S3x128x128) .bf16 (V main_arg9) bitsLt_bf16_f32 := by
  after_reads_simp

/-- The narrow copy of argument 11. -/
theorem narrow11_of : after (hostOps0_2 (F := Ideal)) V main_v44 = truncf (F := Ideal) (s := S3x128x60) .bf16 (V main_arg11) bitsLt_bf16_f32 := by
  after_reads_simp

/-- The narrow copy of argument 13. -/
theorem narrow13_of : after (hostOps0_2 (F := Ideal)) V main_v45 = truncf (F := Ideal) (s := S3x9x60) .bf16 (V main_arg13) bitsLt_bf16_f32 := by
  after_reads_simp

/-- The weights region 0 is launched with are layer 0's. -/
theorem layer0_of (A : Stack) (h7 : V main_arg7 = A.a7) (h8 : V main_arg8 = A.a8) (h9 : V main_arg9 = A.a9) (h10 : V main_arg10 = A.a10) (h11 : V main_arg11 = A.a11) (h12 : V main_arg12 = A.a12) (h13 : V main_arg13 = A.a13) :
    layerOf (after (hostOps0_2 (F := Ideal)) V main_v54) (after (hostOps0_2 (F := Ideal)) V main_v67) (after (hostOps0_2 (F := Ideal)) V main_v58) (after (hostOps0_2 (F := Ideal)) V main_v68) (after (hostOps0_2 (F := Ideal)) V main_v62) (after (hostOps0_2 (F := Ideal)) V main_v69) (after (hostOps0_2 (F := Ideal)) V main_v66)
      = A.layer 0 := by
  after_reads_simp
  rw [h7, h8, h9, h10, h11, h12, h13]
  exact layerOf_slices 0 A _ _ _ _ _ _ _

/-- The senders' features of layer 1. -/
theorem senders1_of : after (hostOps1_2 (F := Ideal)) V main_v87 = senders (V main_v80) (V main_arg3) := by
  after_reads_simp
  rfl

/-- The weights region 1 is launched with are layer 1's. -/
theorem layer1_of (A : Stack) (h7 : V main_v42 = truncf (F := Ideal) (s := S3x50x128) .bf16 (A.a7) bitsLt_bf16_f32) (h9 : V main_v43 = truncf (F := Ideal) (s := S3x128x128) .bf16 (A.a9) bitsLt_bf16_f32) (h11 : V main_v44 = truncf (F := Ideal) (s := S3x128x60) .bf16 (A.a11) bitsLt_bf16_f32) (h13 : V main_v45 = truncf (F := Ideal) (s := S3x9x60) .bf16 (A.a13) bitsLt_bf16_f32) (h8 : V main_arg8 = A.a8) (h10 : V main_arg10 = A.a10) (h12 : V main_arg12 = A.a12) :
    layerOf (after (hostOps1_2 (F := Ideal)) V main_v89) (after (hostOps1_2 (F := Ideal)) V main_v102) (after (hostOps1_2 (F := Ideal)) V main_v93) (after (hostOps1_2 (F := Ideal)) V main_v103) (after (hostOps1_2 (F := Ideal)) V main_v97) (after (hostOps1_2 (F := Ideal)) V main_v104) (after (hostOps1_2 (F := Ideal)) V main_v101)
      = A.layer 1 := by
  after_reads_simp
  rw [h7, h8, h9, h10, h11, h12, h13]
  exact layerOf_slices 1 A _ _ _ _ _ _ _

/-- The senders' features of layer 2. -/
theorem senders2_of : after (hostOps2_2 (F := Ideal)) V main_v122 = senders (V main_v115) (V main_arg3) := by
  after_reads_simp
  rfl

/-- The weights region 2 is launched with are layer 2's. -/
theorem layer2_of (A : Stack) (h7 : V main_v42 = truncf (F := Ideal) (s := S3x50x128) .bf16 (A.a7) bitsLt_bf16_f32) (h9 : V main_v43 = truncf (F := Ideal) (s := S3x128x128) .bf16 (A.a9) bitsLt_bf16_f32) (h11 : V main_v44 = truncf (F := Ideal) (s := S3x128x60) .bf16 (A.a11) bitsLt_bf16_f32) (h13 : V main_v45 = truncf (F := Ideal) (s := S3x9x60) .bf16 (A.a13) bitsLt_bf16_f32) (h8 : V main_arg8 = A.a8) (h10 : V main_arg10 = A.a10) (h12 : V main_arg12 = A.a12) :
    layerOf (after (hostOps2_2 (F := Ideal)) V main_v124) (after (hostOps2_2 (F := Ideal)) V main_v137) (after (hostOps2_2 (F := Ideal)) V main_v128) (after (hostOps2_2 (F := Ideal)) V main_v138) (after (hostOps2_2 (F := Ideal)) V main_v132) (after (hostOps2_2 (F := Ideal)) V main_v139) (after (hostOps2_2 (F := Ideal)) V main_v136)
      = A.layer 2 := by
  after_reads_simp
  rw [h7, h8, h9, h10, h11, h12, h13]
  exact layerOf_slices 2 A _ _ _ _ _ _ _

/-- Layer 0's messages summed, scaled, added and mixed. -/
theorem mixed0_of (A : Stack) (h14 : V main_arg14 = A.a14) : after (hostOps1 (F := Ideal)) V main_v79
    = mixed (V main_v41) (V main_v70) (V main_arg4) (A.self 0) := by
  rw [← self_slice 0 A slices_S3x60x60_S1x60x60_0_0_0, ← h14]
  after_reads_simp
  rfl

/-- Layer 0's activation. -/
theorem activate0_of : after (hostOps1_1 (F := Ideal)) V main_v80 = activate (V main_v79) := by
  after_reads_simp
  rfl

/-- Layer 1's messages summed, scaled, added and mixed. -/
theorem mixed1_of (A : Stack) (h14 : V main_arg14 = A.a14) : after (hostOps2 (F := Ideal)) V main_v114
    = mixed (V main_v80) (V main_v105) (V main_arg4) (A.self 1) := by
  rw [← self_slice 1 A slices_S3x60x60_S1x60x60_1_0_0, ← h14]
  after_reads_simp
  rfl

/-- Layer 1's activation. -/
theorem activate1_of : after (hostOps2_1 (F := Ideal)) V main_v115 = activate (V main_v114) := by
  after_reads_simp
  rfl

/-- Layer 2's messages summed, scaled, added and mixed. -/
theorem mixed2_of (A : Stack) (h14 : V main_arg14 = A.a14) : after (hostOps3 (F := Ideal)) V main_v149
    = mixed (V main_v115) (V main_v140) (V main_arg4) (A.self 2) := by
  rw [← self_slice 2 A slices_S3x60x60_S1x60x60_2_0_0, ← h14]
  after_reads_simp
  rfl

/-- Layer 2's activation. -/
theorem activate2_of : after (hostOps3_1 (F := Ideal)) V main_v150 = activate (V main_v149) := by
  after_reads_simp
  rfl

/-- The result. -/
theorem readout_of : after (hostOps3_2 (F := Ideal)) V main_v165
    = readout (V main_v150) (V main_arg15) (V main_arg2) := by
  after_reads_simp
  rfl

end Cert.Net.Host
-- ==== Proof.Region0.lean ====
/- What region 0 of the kernel leaves in its output array: every edge's message, at the layer whose weights the
region's arrays hold. One grid point stores the block of 4000 edges it loads; the 200 blocks tile the array. -/
module
public import proofs.«01_k».proof.Proof.Edge
public import proofs.«01_k».proof.Proof.Gen.KernelIdeal.Frame
public import Idealize.ShloMosaic.Lib.Pipeline.Value

@[expose] public section

set_option maxRecDepth 16384

noncomputable section

namespace Cert.Edge.Region0

open Idealize.ShloMosaic Idealize.ShloMosaic.TcCoe Idealize.SL.Sem
open Cert.KernelIdeal Cert.KernelIdeal.Gen Cert.Edge

theorem hz : (![0, 0] : Fin 2 → Nat) = fun _ => 0 := funext fun a => by fin_cases a <;> rfl

/-- The edge that row `r` of block `t` holds. -/
def edgeAt (t : Fin cfg0.N) (r : Fin 4000) : Fin 800000 :=
  ⟨t.val * 4000 + r.val, by have := t.isLt; have : cfg0.N = 200 := N_0; omega⟩

/-- The block indices of the three windows that move with the grid. -/
theorem moves : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_9.index t (0 : Fin 2) = t.val ∧ win0_9.index t (1 : Fin 2) = 0) :=
  (by decide +kernel : ∀ t : Fin grid0.N, _)

/-- The block indices of the weights' windows, which stay. -/
theorem stays : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

variable (V : (c : Dev nD) → (b : Ref sig .tc) → Buf (Elt Ideal) ((c : Thread nD τ).loc b))

/-- Block `t` of the edges' directions and lengths, entry by entry. -/
theorem geom_block (c : Dev nD) (t : Fin cfg0.N) (r : Fin 4000) (a : Fin 4) :
    (iblk0 (F := Ideal) V c 0 t : Vec Ideal S4000x4 .f32) (ix2 r a) = (V c main_v24 : Vec Ideal S800000x4 .f32) (ix2 (edgeAt t r) a) := by
  show (V c main_v24 : Vec Ideal S800000x4 .f32) (((cfg0.win 0).blk t).view.emb (ix2 r a)) = _
  refine congrArg _ (funext fun b => Fin.ext ?_)
  obtain ⟨e0, e1⟩ := (moves t).1
  match b with
  | ⟨0, _⟩ => show win0_0.index t (0 : Fin 2) * 4000 + 1 * r.val = t.val * 4000 + r.val; omega
  | ⟨1, _⟩ => show win0_0.index t (1 : Fin 2) * 4 + 1 * a.val = a.val; omega

/-- Block `t` of the senders' features, entry by entry. -/
theorem sender_block (c : Dev nD) (t : Fin cfg0.N) (r : Fin 4000) (a : Fin 60) :
    (iblk0 (F := Ideal) V c 1 t : Vec Ideal S4000x60 .f32) (ix2 r a) = (V c main_v52 : Vec Ideal S800000x60 .f32) (ix2 (edgeAt t r) a) := by
  show (V c main_v52 : Vec Ideal S800000x60 .f32) (((cfg0.win 1).blk t).view.emb (ix2 r a)) = _
  refine congrArg _ (funext fun b => Fin.ext ?_)
  obtain ⟨e0, e1⟩ := (moves t).2.1
  match b with
  | ⟨0, _⟩ => show win0_1.index t (0 : Fin 2) * 4000 + 1 * r.val = t.val * 4000 + r.val; omega
  | ⟨1, _⟩ => show win0_1.index t (1 : Fin 2) * 60 + 1 * a.val = a.val; omega

/-- An entry of block `t` of the output is this entry of the array. -/
theorem out_emb (t : Fin cfg0.N) (r : Fin 4000) (a : Fin 60) :
    (((cfg0.win 9).blk t).view.emb (ix2 r a) : S800000x60.Idx) = ix2 (edgeAt t r) a := by
  refine funext fun b => Fin.ext ?_
  obtain ⟨e0, e1⟩ := (moves t).2.2
  match b with
  | ⟨0, _⟩ => show win0_9.index t (0 : Fin 2) * 4000 + 1 * r.val = t.val * 4000 + r.val; omega
  | ⟨1, _⟩ => show win0_9.index t (1 : Fin 2) * 60 + 1 * a.val = a.val; omega

/-- Window 2's block is its whole array at every point. -/
theorem block2 (c : Dev nD) (t : Fin cfg0.N) : (iblk0 (F := Ideal) V c 2 t : Vec Ideal S50x128 .bf16) = V c main_v54 := by
  refine funext fun j => ?_
  show (V c main_v54 : Vec Ideal S50x128 .bf16) (((cfg0.win 2).blk t).view.emb j) = (V c main_v54 : Vec Ideal S50x128 .bf16) j
  refine congrArg _ (funext fun b => Fin.ext ?_)
  obtain ⟨e0, e1⟩ := (stays t).1
  match b with
  | ⟨0, _⟩ => show win0_2.index t (0 : Fin 2) * 50 + 1 * (j 0).val = (j 0).val; omega
  | ⟨1, _⟩ => show win0_2.index t (1 : Fin 2) * 128 + 1 * (j 1).val = (j 1).val; omega

/-- Window 3's block is its whole array at every point. -/
theorem block3 (c : Dev nD) (t : Fin cfg0.N) : (iblk0 (F := Ideal) V c 3 t : Vec Ideal S1x128 .f32) = V c main_v67 := by
  refine funext fun j => ?_
  show (V c main_v67 : Vec Ideal S1x128 .f32) (((cfg0.win 3).blk t).view.emb j) = (V c main_v67 : Vec Ideal S1x128 .f32) j
  refine congrArg _ (funext fun b => Fin.ext ?_)
  obtain ⟨e0, e1⟩ := (stays t).2.1
  match b with
  | ⟨0, _⟩ => show win0_3.index t (0 : Fin 2) * 1 + 1 * (j 0).val = (j 0).val; omega
  | ⟨1, _⟩ => show win0_3.index t (1 : Fin 2) * 128 + 1 * (j 1).val = (j 1).val; omega

/-- Window 4's block is its whole array at every point. -/
theorem block4 (c : Dev nD) (t : Fin cfg0.N) : (iblk0 (F := Ideal) V c 4 t : Vec Ideal S128x128 .bf16) = V c main_v58 := by
  refine funext fun j => ?_
  show (V c main_v58 : Vec Ideal S128x128 .bf16) (((cfg0.win 4).blk t).view.emb j) = (V c main_v58 : Vec Ideal S128x128 .bf16) j
  refine congrArg _ (funext fun b => Fin.ext ?_)
  obtain ⟨e0, e1⟩ := (stays t).2.2.1
  match b with
  | ⟨0, _⟩ => show win0_4.index t (0 : Fin 2) * 128 + 1 * (j 0).val = (j 0).val; omega
  | ⟨1, _⟩ => show win0_4.index t (1 : Fin 2) * 128 + 1 * (j 1).val = (j 1).val; omega

/-- Window 5's block is its whole array at every point. -/
theorem block5 (c : Dev nD) (t : Fin cfg0.N) : (iblk0 (F := Ideal) V c 5 t : Vec Ideal S1x128 .f32) = V c main_v68 := by
  refine funext fun j => ?_
  show (V c main_v68 : Vec Ideal S1x128 .f32) (((cfg0.win 5).blk t).view.emb j) = (V c main_v68 : Vec Ideal S1x128 .f32) j
  refine congrArg _ (funext fun b => Fin.ext ?_)
  obtain ⟨e0, e1⟩ := (stays t).2.2.2.1
  match b with
  | ⟨0, _⟩ => show win0_5.index t (0 : Fin 2) * 1 + 1 * (j 0).val = (j 0).val; omega
  | ⟨1, _⟩ => show win0_5.index t (1 : Fin 2) * 128 + 1 * (j 1).val = (j 1).val; omega

/-- Window 6's block is its whole array at every point. -/
theorem block6 (c : Dev nD) (t : Fin cfg0.N) : (iblk0 (F := Ideal) V c 6 t : Vec Ideal S128x60 .bf16) = V c main_v62 := by
  refine funext fun j => ?_
  show (V c main_v62 : Vec Ideal S128x60 .bf16) (((cfg0.win 6).blk t).view.emb j) = (V c main_v62 : Vec Ideal S128x60 .bf16) j
  refine congrArg _ (funext fun b => Fin.ext ?_)
  obtain ⟨e0, e1⟩ := (stays t).2.2.2.2.1
  match b with
  | ⟨0, _⟩ => show win0_6.index t (0 : Fin 2) * 128 + 1 * (j 0).val = (j 0).val; omega
  | ⟨1, _⟩ => show win0_6.index t (1 : Fin 2) * 60 + 1 * (j 1).val = (j 1).val; omega

/-- Window 7's block is its whole array at every point. -/
theorem block7 (c : Dev nD) (t : Fin cfg0.N) : (iblk0 (F := Ideal) V c 7 t : Vec Ideal S1x60 .f32) = V c main_v69 := by
  refine funext fun j => ?_
  show (V c main_v69 : Vec Ideal S1x60 .f32) (((cfg0.win 7).blk t).view.emb j) = (V c main_v69 : Vec Ideal S1x60 .f32) j
  refine congrArg _ (funext fun b => Fin.ext ?_)
  obtain ⟨e0, e1⟩ := (stays t).2.2.2.2.2.1
  match b with
  | ⟨0, _⟩ => show win0_7.index t (0 : Fin 2) * 1 + 1 * (j 0).val = (j 0).val; omega
  | ⟨1, _⟩ => show win0_7.index t (1 : Fin 2) * 60 + 1 * (j 1).val = (j 1).val; omega

/-- Window 8's block is its whole array at every point. -/
theorem block8 (c : Dev nD) (t : Fin cfg0.N) : (iblk0 (F := Ideal) V c 8 t : Vec Ideal S9x60 .bf16) = V c main_v66 := by
  refine funext fun j => ?_
  show (V c main_v66 : Vec Ideal S9x60 .bf16) (((cfg0.win 8).blk t).view.emb j) = (V c main_v66 : Vec Ideal S9x60 .bf16) j
  refine congrArg _ (funext fun b => Fin.ext ?_)
  obtain ⟨e0, e1⟩ := (stays t).2.2.2.2.2.2
  match b with
  | ⟨0, _⟩ => show win0_8.index t (0 : Fin 2) * 9 + 1 * (j 0).val = (j 0).val; omega
  | ⟨1, _⟩ => show win0_8.index t (1 : Fin 2) * 60 + 1 * (j 1).val = (j 1).val; omega

/-- The layer whose weights the region's arrays hold. -/
abbrev layer (c : Dev nD) : Layer :=
  layerOf (V c main_v54) (V c main_v67) (V c main_v58) (V c main_v68) (V c main_v62) (V c main_v69) (V c main_v66)

/-- What grid point `t` writes back is block `t` of the messages. -/
theorem flushed (c : Dev nD) (t : Fin cfg0.N) :
    (dat0 (F := Ideal) V c).flushed 9 t
      = ((cfg0.win 9).blk t).view.read (Elt Ideal) (messages (layer V c) (V c main_v24) (V c main_v52)) := by
  show (cfg0.win 9).cut (grid0.coords t) ((dat0 (F := Ideal) V c).after 9 t) = _
  rw [after0_9]
  unfold out0_9
  rw [View.canon_unit_zero hz, View.ld_unit_zero hz, View.ld_unit_zero hz, View.ld_unit_zero hz, View.ld_unit_zero hz,
    View.ld_unit_zero hz, View.ld_unit_zero hz, View.ld_unit_zero hz, View.ld_unit_zero hz, View.ld_unit_zero hz]
  rw [block2, block3, block4, block5, block6, block7, block8]
  funext j
  have key : ∀ (r : Fin 4000) (a : Fin 60), _ = messages (layer V c) (V c main_v24) (V c main_v52) (ix2 (edgeAt t r) a) :=
    fun r a => (body_entry (iblk0 V c 0 t) (iblk0 V c 1 t) (V c main_v54) (V c main_v67) (V c main_v58) (V c main_v68) (V c main_v62) (V c main_v69) (V c main_v66) r a).trans (by
      simp only [geom_block, sender_block]; rfl)
  have hj : j = ix2 (j 0) (j 1) := eq_ix2 j
  rw [hj]
  refine (key _ _).trans ?_
  exact congrArg (messages _ _ _) (out_emb t (j 0) (j 1)).symm

/-- Every entry of the array is in the block of its edge. -/
theorem cover (i : S800000x60.Idx) :
    ∃ t : Fin cfg0.N, (cfg0.win 9).flush t = true ∧ i ∈ ((cfg0.win 9).blk t).view.set := by
  have h0 : (i 0 : Nat) < 800000 := (i 0).isLt
  have ht : (i 0 : Nat) / 4000 < cfg0.N := by have hN : cfg0.N = 200 := N_0; omega
  have hr : (i 0 : Nat) % 4000 < 4000 := by omega
  refine ⟨⟨(i 0 : Nat) / 4000, ht⟩, flush0_9 _, ?_⟩
  have h := ((cfg0.win 9).blk ⟨(i 0 : Nat) / 4000, ht⟩).view.emb_mem_set (ix2 (⟨(i 0 : Nat) % 4000, hr⟩ : Fin 4000) (i 1 : Fin 60))
  have e : (ix2 (edgeAt ⟨(i 0 : Nat) / 4000, ht⟩ ⟨(i 0 : Nat) % 4000, hr⟩) (i 1) : S800000x60.Idx) = i := by
    refine funext fun b => Fin.ext ?_
    match b with
    | ⟨0, _⟩ => show (i 0 : Nat) / 4000 * 4000 + (i 0 : Nat) % 4000 = i 0; omega
    | ⟨1, _⟩ => rfl
  exact (congrArg (· ∈ ((cfg0.win 9).blk ⟨(i 0 : Nat) / 4000, ht⟩).view.set) ((out_emb _ _ _).trans e)).mp h

/-- The output array after the region: all edges' messages. -/
theorem final (c : Dev nD) :
    (dat0 (F := Ideal) V c).arrAt 9 cfg0.N = messages (layer V c) (V c main_v24) (V c main_v52) :=
  (dat0 V c).arrAt_eq_of_cover 9 _ (fun t _ => flushed V c t) cover

end Cert.Edge.Region0
-- ==== Proof.Region1.lean ====
/- What region 1 of the kernel leaves in its output array: every edge's message, at the layer whose weights the
region's arrays hold. One grid point stores the block of 4000 edges it loads; the 200 blocks tile the array. -/
module
public import proofs.«01_k».proof.Proof.Edge
public import proofs.«01_k».proof.Proof.Gen.KernelIdeal.Frame
public import Idealize.ShloMosaic.Lib.Pipeline.Value

@[expose] public section

set_option maxRecDepth 16384

noncomputable section

namespace Cert.Edge.Region1

open Idealize.ShloMosaic Idealize.ShloMosaic.TcCoe Idealize.SL.Sem
open Cert.KernelIdeal Cert.KernelIdeal.Gen Cert.Edge

theorem hz : (![0, 0] : Fin 2 → Nat) = fun _ => 0 := funext fun a => by fin_cases a <;> rfl

/-- The edge that row `r` of block `t` holds. -/
def edgeAt (t : Fin cfg1.N) (r : Fin 4000) : Fin 800000 :=
  ⟨t.val * 4000 + r.val, by have := t.isLt; have : cfg1.N = 200 := N_1; omega⟩

/-- The block indices of the three windows that move with the grid. -/
theorem moves : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_9.index t (0 : Fin 2) = t.val ∧ win1_9.index t (1 : Fin 2) = 0) :=
  (by decide +kernel : ∀ t : Fin grid1.N, _)

/-- The block indices of the weights' windows, which stay. -/
theorem stays : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0) :=
  (by decide +kernel : ∀ t : Fin grid1.N, _)

variable (V : (c : Dev nD) → (b : Ref sig .tc) → Buf (Elt Ideal) ((c : Thread nD τ).loc b))

/-- Block `t` of the edges' directions and lengths, entry by entry. -/
theorem geom_block (c : Dev nD) (t : Fin cfg1.N) (r : Fin 4000) (a : Fin 4) :
    (iblk1 (F := Ideal) V c 0 t : Vec Ideal S4000x4 .f32) (ix2 r a) = (V c main_v24 : Vec Ideal S800000x4 .f32) (ix2 (edgeAt t r) a) := by
  show (V c main_v24 : Vec Ideal S800000x4 .f32) (((cfg1.win 0).blk t).view.emb (ix2 r a)) = _
  refine congrArg _ (funext fun b => Fin.ext ?_)
  obtain ⟨e0, e1⟩ := (moves t).1
  match b with
  | ⟨0, _⟩ => show win1_0.index t (0 : Fin 2) * 4000 + 1 * r.val = t.val * 4000 + r.val; omega
  | ⟨1, _⟩ => show win1_0.index t (1 : Fin 2) * 4 + 1 * a.val = a.val; omega

/-- Block `t` of the senders' features, entry by entry. -/
theorem sender_block (c : Dev nD) (t : Fin cfg1.N) (r : Fin 4000) (a : Fin 60) :
    (iblk1 (F := Ideal) V c 1 t : Vec Ideal S4000x60 .f32) (ix2 r a) = (V c main_v87 : Vec Ideal S800000x60 .f32) (ix2 (edgeAt t r) a) := by
  show (V c main_v87 : Vec Ideal S800000x60 .f32) (((cfg1.win 1).blk t).view.emb (ix2 r a)) = _
  refine congrArg _ (funext fun b => Fin.ext ?_)
  obtain ⟨e0, e1⟩ := (moves t).2.1
  match b with
  | ⟨0, _⟩ => show win1_1.index t (0 : Fin 2) * 4000 + 1 * r.val = t.val * 4000 + r.val; omega
  | ⟨1, _⟩ => show win1_1.index t (1 : Fin 2) * 60 + 1 * a.val = a.val; omega

/-- An entry of block `t` of the output is this entry of the array. -/
theorem out_emb (t : Fin cfg1.N) (r : Fin 4000) (a : Fin 60) :
    (((cfg1.win 9).blk t).view.emb (ix2 r a) : S800000x60.Idx) = ix2 (edgeAt t r) a := by
  refine funext fun b => Fin.ext ?_
  obtain ⟨e0, e1⟩ := (moves t).2.2
  match b with
  | ⟨0, _⟩ => show win1_9.index t (0 : Fin 2) * 4000 + 1 * r.val = t.val * 4000 + r.val; omega
  | ⟨1, _⟩ => show win1_9.index t (1 : Fin 2) * 60 + 1 * a.val = a.val; omega

/-- Window 2's block is its whole array at every point. -/
theorem block2 (c : Dev nD) (t : Fin cfg1.N) : (iblk1 (F := Ideal) V c 2 t : Vec Ideal S50x128 .bf16) = V c main_v89 := by
  refine funext fun j => ?_
  show (V c main_v89 : Vec Ideal S50x128 .bf16) (((cfg1.win 2).blk t).view.emb j) = (V c main_v89 : Vec Ideal S50x128 .bf16) j
  refine congrArg _ (funext fun b => Fin.ext ?_)
  obtain ⟨e0, e1⟩ := (stays t).1
  match b with
  | ⟨0, _⟩ => show win1_2.index t (0 : Fin 2) * 50 + 1 * (j 0).val = (j 0).val; omega
  | ⟨1, _⟩ => show win1_2.index t (1 : Fin 2) * 128 + 1 * (j 1).val = (j 1).val; omega

/-- Window 3's block is its whole array at every point. -/
theorem block3 (c : Dev nD) (t : Fin cfg1.N) : (iblk1 (F := Ideal) V c 3 t : Vec Ideal S1x128 .f32) = V c main_v102 := by
  refine funext fun j => ?_
  show (V c main_v102 : Vec Ideal S1x128 .f32) (((cfg1.win 3).blk t).view.emb j) = (V c main_v102 : Vec Ideal S1x128 .f32) j
  refine congrArg _ (funext fun b => Fin.ext ?_)
  obtain ⟨e0, e1⟩ := (stays t).2.1
  match b with
  | ⟨0, _⟩ => show win1_3.index t (0 : Fin 2) * 1 + 1 * (j 0).val = (j 0).val; omega
  | ⟨1, _⟩ => show win1_3.index t (1 : Fin 2) * 128 + 1 * (j 1).val = (j 1).val; omega

/-- Window 4's block is its whole array at every point. -/
theorem block4 (c : Dev nD) (t : Fin cfg1.N) : (iblk1 (F := Ideal) V c 4 t : Vec Ideal S128x128 .bf16) = V c main_v93 := by
  refine funext fun j => ?_
  show (V c main_v93 : Vec Ideal S128x128 .bf16) (((cfg1.win 4).blk t).view.emb j) = (V c main_v93 : Vec Ideal S128x128 .bf16) j
  refine congrArg _ (funext fun b => Fin.ext ?_)
  obtain ⟨e0, e1⟩ := (stays t).2.2.1
  match b with
  | ⟨0, _⟩ => show win1_4.index t (0 : Fin 2) * 128 + 1 * (j 0).val = (j 0).val; omega
  | ⟨1, _⟩ => show win1_4.index t (1 : Fin 2) * 128 + 1 * (j 1).val = (j 1).val; omega

/-- Window 5's block is its whole array at every point. -/
theorem block5 (c : Dev nD) (t : Fin cfg1.N) : (iblk1 (F := Ideal) V c 5 t : Vec Ideal S1x128 .f32) = V c main_v103 := by
  refine funext fun j => ?_
  show (V c main_v103 : Vec Ideal S1x128 .f32) (((cfg1.win 5).blk t).view.emb j) = (V c main_v103 : Vec Ideal S1x128 .f32) j
  refine congrArg _ (funext fun b => Fin.ext ?_)
  obtain ⟨e0, e1⟩ := (stays t).2.2.2.1
  match b with
  | ⟨0, _⟩ => show win1_5.index t (0 : Fin 2) * 1 + 1 * (j 0).val = (j 0).val; omega
  | ⟨1, _⟩ => show win1_5.index t (1 : Fin 2) * 128 + 1 * (j 1).val = (j 1).val; omega

/-- Window 6's block is its whole array at every point. -/
theorem block6 (c : Dev nD) (t : Fin cfg1.N) : (iblk1 (F := Ideal) V c 6 t : Vec Ideal S128x60 .bf16) = V c main_v97 := by
  refine funext fun j => ?_
  show (V c main_v97 : Vec Ideal S128x60 .bf16) (((cfg1.win 6).blk t).view.emb j) = (V c main_v97 : Vec Ideal S128x60 .bf16) j
  refine congrArg _ (funext fun b => Fin.ext ?_)
  obtain ⟨e0, e1⟩ := (stays t).2.2.2.2.1
  match b with
  | ⟨0, _⟩ => show win1_6.index t (0 : Fin 2) * 128 + 1 * (j 0).val = (j 0).val; omega
  | ⟨1, _⟩ => show win1_6.index t (1 : Fin 2) * 60 + 1 * (j 1).val = (j 1).val; omega

/-- Window 7's block is its whole array at every point. -/
theorem block7 (c : Dev nD) (t : Fin cfg1.N) : (iblk1 (F := Ideal) V c 7 t : Vec Ideal S1x60 .f32) = V c main_v104 := by
  refine funext fun j => ?_
  show (V c main_v104 : Vec Ideal S1x60 .f32) (((cfg1.win 7).blk t).view.emb j) = (V c main_v104 : Vec Ideal S1x60 .f32) j
  refine congrArg _ (funext fun b => Fin.ext ?_)
  obtain ⟨e0, e1⟩ := (stays t).2.2.2.2.2.1
  match b with
  | ⟨0, _⟩ => show win1_7.index t (0 : Fin 2) * 1 + 1 * (j 0).val = (j 0).val; omega
  | ⟨1, _⟩ => show win1_7.index t (1 : Fin 2) * 60 + 1 * (j 1).val = (j 1).val; omega

/-- Window 8's block is its whole array at every point. -/
theorem block8 (c : Dev nD) (t : Fin cfg1.N) : (iblk1 (F := Ideal) V c 8 t : Vec Ideal S9x60 .bf16) = V c main_v101 := by
  refine funext fun j => ?_
  show (V c main_v101 : Vec Ideal S9x60 .bf16) (((cfg1.win 8).blk t).view.emb j) = (V c main_v101 : Vec Ideal S9x60 .bf16) j
  refine congrArg _ (funext fun b => Fin.ext ?_)
  obtain ⟨e0, e1⟩ := (stays t).2.2.2.2.2.2
  match b with
  | ⟨0, _⟩ => show win1_8.index t (0 : Fin 2) * 9 + 1 * (j 0).val = (j 0).val; omega
  | ⟨1, _⟩ => show win1_8.index t (1 : Fin 2) * 60 + 1 * (j 1).val = (j 1).val; omega

/-- The layer whose weights the region's arrays hold. -/
abbrev layer (c : Dev nD) : Layer :=
  layerOf (V c main_v89) (V c main_v102) (V c main_v93) (V c main_v103) (V c main_v97) (V c main_v104) (V c main_v101)

/-- What grid point `t` writes back is block `t` of the messages. -/
theorem flushed (c : Dev nD) (t : Fin cfg1.N) :
    (dat1 (F := Ideal) V c).flushed 9 t
      = ((cfg1.win 9).blk t).view.read (Elt Ideal) (messages (layer V c) (V c main_v24) (V c main_v87)) := by
  show (cfg1.win 9).cut (grid1.coords t) ((dat1 (F := Ideal) V c).after 9 t) = _
  rw [after1_9]
  unfold out1_9
  rw [View.canon_unit_zero hz, View.ld_unit_zero hz, View.ld_unit_zero hz, View.ld_unit_zero hz, View.ld_unit_zero hz,
    View.ld_unit_zero hz, View.ld_unit_zero hz, View.ld_unit_zero hz, View.ld_unit_zero hz, View.ld_unit_zero hz]
  rw [block2, block3, block4, block5, block6, block7, block8]
  funext j
  have key : ∀ (r : Fin 4000) (a : Fin 60), _ = messages (layer V c) (V c main_v24) (V c main_v87) (ix2 (edgeAt t r) a) :=
    fun r a => (body_entry (iblk1 V c 0 t) (iblk1 V c 1 t) (V c main_v89) (V c main_v102) (V c main_v93) (V c main_v103) (V c main_v97) (V c main_v104) (V c main_v101) r a).trans (by
      simp only [geom_block, sender_block]; rfl)
  have hj : j = ix2 (j 0) (j 1) := eq_ix2 j
  rw [hj]
  refine (key _ _).trans ?_
  exact congrArg (messages _ _ _) (out_emb t (j 0) (j 1)).symm

/-- Every entry of the array is in the block of its edge. -/
theorem cover (i : S800000x60.Idx) :
    ∃ t : Fin cfg1.N, (cfg1.win 9).flush t = true ∧ i ∈ ((cfg1.win 9).blk t).view.set := by
  have h0 : (i 0 : Nat) < 800000 := (i 0).isLt
  have ht : (i 0 : Nat) / 4000 < cfg1.N := by have hN : cfg1.N = 200 := N_1; omega
  have hr : (i 0 : Nat) % 4000 < 4000 := by omega
  refine ⟨⟨(i 0 : Nat) / 4000, ht⟩, flush1_9 _, ?_⟩
  have h := ((cfg1.win 9).blk ⟨(i 0 : Nat) / 4000, ht⟩).view.emb_mem_set (ix2 (⟨(i 0 : Nat) % 4000, hr⟩ : Fin 4000) (i 1 : Fin 60))
  have e : (ix2 (edgeAt ⟨(i 0 : Nat) / 4000, ht⟩ ⟨(i 0 : Nat) % 4000, hr⟩) (i 1) : S800000x60.Idx) = i := by
    refine funext fun b => Fin.ext ?_
    match b with
    | ⟨0, _⟩ => show (i 0 : Nat) / 4000 * 4000 + (i 0 : Nat) % 4000 = i 0; omega
    | ⟨1, _⟩ => rfl
  exact (congrArg (· ∈ ((cfg1.win 9).blk ⟨(i 0 : Nat) / 4000, ht⟩).view.set) ((out_emb _ _ _).trans e)).mp h

/-- The output array after the region: all edges' messages. -/
theorem final (c : Dev nD) :
    (dat1 (F := Ideal) V c).arrAt 9 cfg1.N = messages (layer V c) (V c main_v24) (V c main_v87) :=
  (dat1 V c).arrAt_eq_of_cover 9 _ (fun t _ => flushed V c t) cover

end Cert.Edge.Region1
-- ==== Proof.Region2.lean ====
/- What region 2 of the kernel leaves in its output array: every edge's message, at the layer whose weights the
region's arrays hold. One grid point stores the block of 4000 edges it loads; the 200 blocks tile the array. -/
module
public import proofs.«01_k».proof.Proof.Edge
public import proofs.«01_k».proof.Proof.Gen.KernelIdeal.Frame
public import Idealize.ShloMosaic.Lib.Pipeline.Value

@[expose] public section

set_option maxRecDepth 16384

noncomputable section

namespace Cert.Edge.Region2

open Idealize.ShloMosaic Idealize.ShloMosaic.TcCoe Idealize.SL.Sem
open Cert.KernelIdeal Cert.KernelIdeal.Gen Cert.Edge

theorem hz : (![0, 0] : Fin 2 → Nat) = fun _ => 0 := funext fun a => by fin_cases a <;> rfl

/-- The edge that row `r` of block `t` holds. -/
def edgeAt (t : Fin cfg2.N) (r : Fin 4000) : Fin 800000 :=
  ⟨t.val * 4000 + r.val, by have := t.isLt; have : cfg2.N = 200 := N_2; omega⟩

/-- The block indices of the three windows that move with the grid. -/
theorem moves : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_9.index t (0 : Fin 2) = t.val ∧ win2_9.index t (1 : Fin 2) = 0) :=
  (by decide +kernel : ∀ t : Fin grid2.N, _)

/-- The block indices of the weights' windows, which stay. -/
theorem stays : ∀ t : Fin cfg2.N,
    (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

variable (V : (c : Dev nD) → (b : Ref sig .tc) → Buf (Elt Ideal) ((c : Thread nD τ).loc b))

/-- Block `t` of the edges' directions and lengths, entry by entry. -/
theorem geom_block (c : Dev nD) (t : Fin cfg2.N) (r : Fin 4000) (a : Fin 4) :
    (iblk2 (F := Ideal) V c 0 t : Vec Ideal S4000x4 .f32) (ix2 r a) = (V c main_v24 : Vec Ideal S800000x4 .f32) (ix2 (edgeAt t r) a) := by
  show (V c main_v24 : Vec Ideal S800000x4 .f32) (((cfg2.win 0).blk t).view.emb (ix2 r a)) = _
  refine congrArg _ (funext fun b => Fin.ext ?_)
  obtain ⟨e0, e1⟩ := (moves t).1
  match b with
  | ⟨0, _⟩ => show win2_0.index t (0 : Fin 2) * 4000 + 1 * r.val = t.val * 4000 + r.val; omega
  | ⟨1, _⟩ => show win2_0.index t (1 : Fin 2) * 4 + 1 * a.val = a.val; omega

/-- Block `t` of the senders' features, entry by entry. -/
theorem sender_block (c : Dev nD) (t : Fin cfg2.N) (r : Fin 4000) (a : Fin 60) :
    (iblk2 (F := Ideal) V c 1 t : Vec Ideal S4000x60 .f32) (ix2 r a) = (V c main_v122 : Vec Ideal S800000x60 .f32) (ix2 (edgeAt t r) a) := by
  show (V c main_v122 : Vec Ideal S800000x60 .f32) (((cfg2.win 1).blk t).view.emb (ix2 r a)) = _
  refine congrArg _ (funext fun b => Fin.ext ?_)
  obtain ⟨e0, e1⟩ := (moves t).2.1
  match b with
  | ⟨0, _⟩ => show win2_1.index t (0 : Fin 2) * 4000 + 1 * r.val = t.val * 4000 + r.val; omega
  | ⟨1, _⟩ => show win2_1.index t (1 : Fin 2) * 60 + 1 * a.val = a.val; omega

/-- An entry of block `t` of the output is this entry of the array. -/
theorem out_emb (t : Fin cfg2.N) (r : Fin 4000) (a : Fin 60) :
    (((cfg2.win 9).blk t).view.emb (ix2 r a) : S800000x60.Idx) = ix2 (edgeAt t r) a := by
  refine funext fun b => Fin.ext ?_
  obtain ⟨e0, e1⟩ := (moves t).2.2
  match b with
  | ⟨0, _⟩ => show win2_9.index t (0 : Fin 2) * 4000 + 1 * r.val = t.val * 4000 + r.val; omega
  | ⟨1, _⟩ => show win2_9.index t (1 : Fin 2) * 60 + 1 * a.val = a.val; omega

/-- Window 2's block is its whole array at every point. -/
theorem block2 (c : Dev nD) (t : Fin cfg2.N) : (iblk2 (F := Ideal) V c 2 t : Vec Ideal S50x128 .bf16) = V c main_v124 := by
  refine funext fun j => ?_
  show (V c main_v124 : Vec Ideal S50x128 .bf16) (((cfg2.win 2).blk t).view.emb j) = (V c main_v124 : Vec Ideal S50x128 .bf16) j
  refine congrArg _ (funext fun b => Fin.ext ?_)
  obtain ⟨e0, e1⟩ := (stays t).1
  match b with
  | ⟨0, _⟩ => show win2_2.index t (0 : Fin 2) * 50 + 1 * (j 0).val = (j 0).val; omega
  | ⟨1, _⟩ => show win2_2.index t (1 : Fin 2) * 128 + 1 * (j 1).val = (j 1).val; omega

/-- Window 3's block is its whole array at every point. -/
theorem block3 (c : Dev nD) (t : Fin cfg2.N) : (iblk2 (F := Ideal) V c 3 t : Vec Ideal S1x128 .f32) = V c main_v137 := by
  refine funext fun j => ?_
  show (V c main_v137 : Vec Ideal S1x128 .f32) (((cfg2.win 3).blk t).view.emb j) = (V c main_v137 : Vec Ideal S1x128 .f32) j
  refine congrArg _ (funext fun b => Fin.ext ?_)
  obtain ⟨e0, e1⟩ := (stays t).2.1
  match b with
  | ⟨0, _⟩ => show win2_3.index t (0 : Fin 2) * 1 + 1 * (j 0).val = (j 0).val; omega
  | ⟨1, _⟩ => show win2_3.index t (1 : Fin 2) * 128 + 1 * (j 1).val = (j 1).val; omega

/-- Window 4's block is its whole array at every point. -/
theorem block4 (c : Dev nD) (t : Fin cfg2.N) : (iblk2 (F := Ideal) V c 4 t : Vec Ideal S128x128 .bf16) = V c main_v128 := by
  refine funext fun j => ?_
  show (V c main_v128 : Vec Ideal S128x128 .bf16) (((cfg2.win 4).blk t).view.emb j) = (V c main_v128 : Vec Ideal S128x128 .bf16) j
  refine congrArg _ (funext fun b => Fin.ext ?_)
  obtain ⟨e0, e1⟩ := (stays t).2.2.1
  match b with
  | ⟨0, _⟩ => show win2_4.index t (0 : Fin 2) * 128 + 1 * (j 0).val = (j 0).val; omega
  | ⟨1, _⟩ => show win2_4.index t (1 : Fin 2) * 128 + 1 * (j 1).val = (j 1).val; omega

/-- Window 5's block is its whole array at every point. -/
theorem block5 (c : Dev nD) (t : Fin cfg2.N) : (iblk2 (F := Ideal) V c 5 t : Vec Ideal S1x128 .f32) = V c main_v138 := by
  refine funext fun j => ?_
  show (V c main_v138 : Vec Ideal S1x128 .f32) (((cfg2.win 5).blk t).view.emb j) = (V c main_v138 : Vec Ideal S1x128 .f32) j
  refine congrArg _ (funext fun b => Fin.ext ?_)
  obtain ⟨e0, e1⟩ := (stays t).2.2.2.1
  match b with
  | ⟨0, _⟩ => show win2_5.index t (0 : Fin 2) * 1 + 1 * (j 0).val = (j 0).val; omega
  | ⟨1, _⟩ => show win2_5.index t (1 : Fin 2) * 128 + 1 * (j 1).val = (j 1).val; omega

/-- Window 6's block is its whole array at every point. -/
theorem block6 (c : Dev nD) (t : Fin cfg2.N) : (iblk2 (F := Ideal) V c 6 t : Vec Ideal S128x60 .bf16) = V c main_v132 := by
  refine funext fun j => ?_
  show (V c main_v132 : Vec Ideal S128x60 .bf16) (((cfg2.win 6).blk t).view.emb j) = (V c main_v132 : Vec Ideal S128x60 .bf16) j
  refine congrArg _ (funext fun b => Fin.ext ?_)
  obtain ⟨e0, e1⟩ := (stays t).2.2.2.2.1
  match b with
  | ⟨0, _⟩ => show win2_6.index t (0 : Fin 2) * 128 + 1 * (j 0).val = (j 0).val; omega
  | ⟨1, _⟩ => show win2_6.index t (1 : Fin 2) * 60 + 1 * (j 1).val = (j 1).val; omega

/-- Window 7's block is its whole array at every point. -/
theorem block7 (c : Dev nD) (t : Fin cfg2.N) : (iblk2 (F := Ideal) V c 7 t : Vec Ideal S1x60 .f32) = V c main_v139 := by
  refine funext fun j => ?_
  show (V c main_v139 : Vec Ideal S1x60 .f32) (((cfg2.win 7).blk t).view.emb j) = (V c main_v139 : Vec Ideal S1x60 .f32) j
  refine congrArg _ (funext fun b => Fin.ext ?_)
  obtain ⟨e0, e1⟩ := (stays t).2.2.2.2.2.1
  match b with
  | ⟨0, _⟩ => show win2_7.index t (0 : Fin 2) * 1 + 1 * (j 0).val = (j 0).val; omega
  | ⟨1, _⟩ => show win2_7.index t (1 : Fin 2) * 60 + 1 * (j 1).val = (j 1).val; omega

/-- Window 8's block is its whole array at every point. -/
theorem block8 (c : Dev nD) (t : Fin cfg2.N) : (iblk2 (F := Ideal) V c 8 t : Vec Ideal S9x60 .bf16) = V c main_v136 := by
  refine funext fun j => ?_
  show (V c main_v136 : Vec Ideal S9x60 .bf16) (((cfg2.win 8).blk t).view.emb j) = (V c main_v136 : Vec Ideal S9x60 .bf16) j
  refine congrArg _ (funext fun b => Fin.ext ?_)
  obtain ⟨e0, e1⟩ := (stays t).2.2.2.2.2.2
  match b with
  | ⟨0, _⟩ => show win2_8.index t (0 : Fin 2) * 9 + 1 * (j 0).val = (j 0).val; omega
  | ⟨1, _⟩ => show win2_8.index t (1 : Fin 2) * 60 + 1 * (j 1).val = (j 1).val; omega

/-- The layer whose weights the region's arrays hold. -/
abbrev layer (c : Dev nD) : Layer :=
  layerOf (V c main_v124) (V c main_v137) (V c main_v128) (V c main_v138) (V c main_v132) (V c main_v139) (V c main_v136)

/-- What grid point `t` writes back is block `t` of the messages. -/
theorem flushed (c : Dev nD) (t : Fin cfg2.N) :
    (dat2 (F := Ideal) V c).flushed 9 t
      = ((cfg2.win 9).blk t).view.read (Elt Ideal) (messages (layer V c) (V c main_v24) (V c main_v122)) := by
  show (cfg2.win 9).cut (grid2.coords t) ((dat2 (F := Ideal) V c).after 9 t) = _
  rw [after2_9]
  unfold out2_9
  rw [View.canon_unit_zero hz, View.ld_unit_zero hz, View.ld_unit_zero hz, View.ld_unit_zero hz, View.ld_unit_zero hz,
    View.ld_unit_zero hz, View.ld_unit_zero hz, View.ld_unit_zero hz, View.ld_unit_zero hz, View.ld_unit_zero hz]
  rw [block2, block3, block4, block5, block6, block7, block8]
  funext j
  have key : ∀ (r : Fin 4000) (a : Fin 60), _ = messages (layer V c) (V c main_v24) (V c main_v122) (ix2 (edgeAt t r) a) :=
    fun r a => (body_entry (iblk2 V c 0 t) (iblk2 V c 1 t) (V c main_v124) (V c main_v137) (V c main_v128) (V c main_v138) (V c main_v132) (V c main_v139) (V c main_v136) r a).trans (by
      simp only [geom_block, sender_block]; rfl)
  have hj : j = ix2 (j 0) (j 1) := eq_ix2 j
  rw [hj]
  refine (key _ _).trans ?_
  exact congrArg (messages _ _ _) (out_emb t (j 0) (j 1)).symm

/-- Every entry of the array is in the block of its edge. -/
theorem cover (i : S800000x60.Idx) :
    ∃ t : Fin cfg2.N, (cfg2.win 9).flush t = true ∧ i ∈ ((cfg2.win 9).blk t).view.set := by
  have h0 : (i 0 : Nat) < 800000 := (i 0).isLt
  have ht : (i 0 : Nat) / 4000 < cfg2.N := by have hN : cfg2.N = 200 := N_2; omega
  have hr : (i 0 : Nat) % 4000 < 4000 := by omega
  refine ⟨⟨(i 0 : Nat) / 4000, ht⟩, flush2_9 _, ?_⟩
  have h := ((cfg2.win 9).blk ⟨(i 0 : Nat) / 4000, ht⟩).view.emb_mem_set (ix2 (⟨(i 0 : Nat) % 4000, hr⟩ : Fin 4000) (i 1 : Fin 60))
  have e : (ix2 (edgeAt ⟨(i 0 : Nat) / 4000, ht⟩ ⟨(i 0 : Nat) % 4000, hr⟩) (i 1) : S800000x60.Idx) = i := by
    refine funext fun b => Fin.ext ?_
    match b with
    | ⟨0, _⟩ => show (i 0 : Nat) / 4000 * 4000 + (i 0 : Nat) % 4000 = i 0; omega
    | ⟨1, _⟩ => rfl
  exact (congrArg (· ∈ ((cfg2.win 9).blk ⟨(i 0 : Nat) / 4000, ht⟩).view.set) ((out_emb _ _ _).trans e)).mp h

/-- The output array after the region: all edges' messages. -/
theorem final (c : Dev nD) :
    (dat2 (F := Ideal) V c).arrAt 9 cfg2.N = messages (layer V c) (V c main_v24) (V c main_v122) :=
  (dat2 V c).arrAt_eq_of_cover 9 _ (fun t _ => flushed V c t) cover

end Cert.Edge.Region2
-- ==== Proof.KernelValue.lean ====
/- The kernel's result buffer at the end of its run: the network of the argument arrays. The contents after each stretch
and each region are read in turn, every layer the same way. -/
module
public import proofs.«01_k».proof.Proof.Host
public import proofs.«01_k».proof.Proof.Region0
public import proofs.«01_k».proof.Proof.Region1
public import proofs.«01_k».proof.Proof.Region2

@[expose] public section

set_option maxRecDepth 16384

noncomputable section

namespace Cert.Net.Value

open Idealize.ShloMosaic Idealize.ShloMosaic.TcCoe Idealize.ShloMosaic.StableHlo
open Cert.KernelIdeal Cert.KernelIdeal.Gen Cert.Edge Cert.Net

variable (m : (ℓ : Loc nD τ sig) → Buf (Elt Ideal) ℓ) (ρ : Dev nD → PrngReg) (c : Dev nD)

/-- The stacked weights among the launched arguments. -/
def stack : Stack where
  a7 := m ((c : Thread nD τ).loc main_arg7)
  a8 := m ((c : Thread nD τ).loc main_arg8)
  a9 := m ((c : Thread nD τ).loc main_arg9)
  a10 := m ((c : Thread nD τ).loc main_arg10)
  a11 := m ((c : Thread nD τ).loc main_arg11)
  a12 := m ((c : Thread nD τ).loc main_arg12)
  a13 := m ((c : Thread nD τ).loc main_arg13)
  a14 := m ((c : Thread nD τ).loc main_arg14)

/-- The geometry of the launched edges. -/
def geom : Vec Ideal S800000x4 .f32 :=
  geometry (m ((c : Thread nD τ).loc main_arg1)) (m ((c : Thread nD τ).loc main_arg3)) (m ((c : Thread nD τ).loc main_arg4))

/-- One layer at the launched arguments. -/
def layerStep (k : Fin 3) (x : Vec Ideal S50000x60 .f32) : Vec Ideal S50000x60 .f32 :=
  step (stack m c) (m ((c : Thread nD τ).loc main_arg1)) (m ((c : Thread nD τ).loc main_arg3)) (m ((c : Thread nD τ).loc main_arg4)) k x

/-- The nodes' first features at the launched arguments. -/
def start : Vec Ideal S50000x60 .f32 :=
  embed (oneHot (nodeClass (m ((c : Thread nD τ).loc main_arg0)))) (m ((c : Thread nD τ).loc main_arg5)) (m ((c : Thread nD τ).loc main_arg6))

theorem geom3 : W3 m ρ c main_v24 = geom m c :=
  (W3_of m ρ c main_v24 (by decide)).trans ((W2_of m ρ c main_v24 (by decide)).trans (Host.geometry_of (W0 m ρ c)))

theorem oneHot2 : W2 m ρ c main_v32 = oneHot (nodeClass (m ((c : Thread nD τ).loc main_arg0))) :=
  (Host.oneHot_of (W1 m ρ c)).trans (congrArg oneHot (Host.class_of (W0 m ρ c)))

theorem start3 : W3 m ρ c main_v41 = start m c := by
  refine (Host.embed_of (W2 m ρ c)).trans ?_
  rw [oneHot2, W2_args m ρ c main_arg5 (by decide), W2_args m ρ c main_arg6 (by decide)]
  rfl

theorem senders3 : W3 m ρ c main_v52 = senders (start m c) (m ((c : Thread nD τ).loc main_arg3)) := by
  refine (Host.senders0_of (W2 m ρ c)).trans ?_
  rw [oneHot2, W2_args m ρ c main_arg5 (by decide), W2_args m ρ c main_arg6 (by decide), W2_args m ρ c main_arg3 (by decide)]
  rfl

theorem layer3 : Region0.layer (V3 m ρ) c = (stack m c).layer 0 :=
  Host.layer0_of (W2 m ρ c) (stack m c) (W2_args m ρ c main_arg7 (by decide)) (W2_args m ρ c main_arg8 (by decide))
    (W2_args m ρ c main_arg9 (by decide)) (W2_args m ρ c main_arg10 (by decide)) (W2_args m ρ c main_arg11 (by decide))
    (W2_args m ρ c main_arg12 (by decide)) (W2_args m ρ c main_arg13 (by decide))

theorem narrow7_3 : W3 m ρ c main_v42 = truncf (F := Ideal) (s := S3x50x128) .bf16 ((stack m c).a7) bitsLt_bf16_f32 := by
  refine (Host.narrow7_of (W2 m ρ c)).trans ?_
  rw [W2_args m ρ c main_arg7 (by decide)]
  rfl

theorem narrow9_3 : W3 m ρ c main_v43 = truncf (F := Ideal) (s := S3x128x128) .bf16 ((stack m c).a9) bitsLt_bf16_f32 := by
  refine (Host.narrow9_of (W2 m ρ c)).trans ?_
  rw [W2_args m ρ c main_arg9 (by decide)]
  rfl

theorem narrow11_3 : W3 m ρ c main_v44 = truncf (F := Ideal) (s := S3x128x60) .bf16 ((stack m c).a11) bitsLt_bf16_f32 := by
  refine (Host.narrow11_of (W2 m ρ c)).trans ?_
  rw [W2_args m ρ c main_arg11 (by decide)]
  rfl

theorem narrow13_3 : W3 m ρ c main_v45 = truncf (F := Ideal) (s := S3x9x60) .bf16 ((stack m c).a13) bitsLt_bf16_f32 := by
  refine (Host.narrow13_of (W2 m ρ c)).trans ?_
  rw [W2_args m ρ c main_arg13 (by decide)]
  rfl

/-- Region 0 leaves layer 0's messages. -/
theorem messages4 : W4 m ρ c main_v70 = messages ((stack m c).layer 0) (geom m c) (senders (start m c) (m ((c : Thread nD τ).loc main_arg3))) := by
  refine (W4_arr m ρ c 9).trans ((Region0.final (V3 m ρ) c).trans ?_)
  rw [layer3]
  exact congrArg₂ _ (geom3 m ρ c) (senders3 m ρ c)

/-- Layer 0's step. -/
theorem features6 : W6 m ρ c main_v80 = layerStep m c 0 (start m c) := by
  refine (Host.activate0_of (W5 m ρ c)).trans (congrArg activate ?_)
  refine (Host.mixed0_of (W4 m ρ c) (stack m c) (W4_args m ρ c main_arg14 (by decide))).trans ?_
  rw [messages4, W4_of m ρ c main_v41 (by decide), start3, W4_args m ρ c main_arg4 (by decide)]
  rfl

theorem features7 : W7 m ρ c main_v80 = layerStep m c 0 (start m c) :=
  (W7_of m ρ c main_v80 (by decide)).trans (features6 m ρ c)

theorem keep7 (r : Ref sig .tc) (h0 : ∀ w : Fin cfg0.W, Pipeline.arrRef spec0 w = r → (cfg0.win w).isOut = false)
    (h1 : r ∉ hostOps1_W) (h2 : r ∉ hostOps1_1_W) : W6 m ρ c r = W3 m ρ c r :=
  (W6_of m ρ c r h2).trans ((W5_of m ρ c r h1).trans (W4_of m ρ c r h0))

theorem geom7 : W7 m ρ c main_v24 = geom m c :=
  (W7_of m ρ c main_v24 (by decide)).trans ((keep7 m ρ c main_v24 (by decide) (by decide) (by decide)).trans (geom3 m ρ c))

theorem senders7 : W7 m ρ c main_v87 = senders (layerStep m c 0 (start m c)) (m ((c : Thread nD τ).loc main_arg3)) := by
  refine (Host.senders1_of (W6 m ρ c)).trans ?_
  rw [features6, W6_args m ρ c main_arg3 (by decide)]

theorem narrow7_7 : W6 m ρ c main_v42 = truncf (F := Ideal) (s := S3x50x128) .bf16 ((stack m c).a7) bitsLt_bf16_f32 :=
  (keep7 m ρ c main_v42 (by decide) (by decide) (by decide)).trans (narrow7_3 m ρ c)

theorem narrow9_7 : W6 m ρ c main_v43 = truncf (F := Ideal) (s := S3x128x128) .bf16 ((stack m c).a9) bitsLt_bf16_f32 :=
  (keep7 m ρ c main_v43 (by decide) (by decide) (by decide)).trans (narrow9_3 m ρ c)

theorem narrow11_7 : W6 m ρ c main_v44 = truncf (F := Ideal) (s := S3x128x60) .bf16 ((stack m c).a11) bitsLt_bf16_f32 :=
  (keep7 m ρ c main_v44 (by decide) (by decide) (by decide)).trans (narrow11_3 m ρ c)

theorem narrow13_7 : W6 m ρ c main_v45 = truncf (F := Ideal) (s := S3x9x60) .bf16 ((stack m c).a13) bitsLt_bf16_f32 :=
  (keep7 m ρ c main_v45 (by decide) (by decide) (by decide)).trans (narrow13_3 m ρ c)

theorem layer7 : Region1.layer (V7 m ρ) c = (stack m c).layer 1 :=
  Host.layer1_of (W6 m ρ c) (stack m c) (narrow7_7 m ρ c) (narrow9_7 m ρ c) (narrow11_7 m ρ c) (narrow13_7 m ρ c)
    (W6_args m ρ c main_arg8 (by decide)) (W6_args m ρ c main_arg10 (by decide)) (W6_args m ρ c main_arg12 (by decide))

/-- Region 1 leaves layer 1's messages. -/
theorem messages8 : W8 m ρ c main_v105 = messages ((stack m c).layer 1) (geom m c) (senders (layerStep m c 0 (start m c)) (m ((c : Thread nD τ).loc main_arg3))) := by
  refine (W8_arr m ρ c 9).trans ((Region1.final (V7 m ρ) c).trans ?_)
  rw [layer7]
  exact congrArg₂ _ (geom7 m ρ c) (senders7 m ρ c)

/-- Layer 1's step. -/
theorem features10 : W10 m ρ c main_v115 = layerStep m c 1 (layerStep m c 0 (start m c)) := by
  refine (Host.activate1_of (W9 m ρ c)).trans (congrArg activate ?_)
  refine (Host.mixed1_of (W8 m ρ c) (stack m c) (W8_args m ρ c main_arg14 (by decide))).trans ?_
  rw [messages8, W8_of m ρ c main_v80 (by decide), features7, W8_args m ρ c main_arg4 (by decide)]
  rfl

theorem features11 : W11 m ρ c main_v115 = layerStep m c 1 (layerStep m c 0 (start m c)) :=
  (W11_of m ρ c main_v115 (by decide)).trans (features10 m ρ c)

theorem keep11 (r : Ref sig .tc) (h0 : ∀ w : Fin cfg1.W, Pipeline.arrRef spec1 w = r → (cfg1.win w).isOut = false)
    (h1 : r ∉ hostOps2_W) (h2 : r ∉ hostOps2_1_W) : W10 m ρ c r = W7 m ρ c r :=
  (W10_of m ρ c r h2).trans ((W9_of m ρ c r h1).trans (W8_of m ρ c r h0))

theorem geom11 : W11 m ρ c main_v24 = geom m c :=
  (W11_of m ρ c main_v24 (by decide)).trans ((keep11 m ρ c main_v24 (by decide) (by decide) (by decide)).trans (geom7 m ρ c))

theorem senders11 : W11 m ρ c main_v122 = senders (layerStep m c 1 (layerStep m c 0 (start m c))) (m ((c : Thread nD τ).loc main_arg3)) := by
  refine (Host.senders2_of (W10 m ρ c)).trans ?_
  rw [features10, W10_args m ρ c main_arg3 (by decide)]

theorem narrow7_11 : W10 m ρ c main_v42 = truncf (F := Ideal) (s := S3x50x128) .bf16 ((stack m c).a7) bitsLt_bf16_f32 :=
  (keep11 m ρ c main_v42 (by decide) (by decide) (by decide)).trans ((W7_of m ρ c main_v42 (by decide)).trans (narrow7_7 m ρ c))

theorem narrow9_11 : W10 m ρ c main_v43 = truncf (F := Ideal) (s := S3x128x128) .bf16 ((stack m c).a9) bitsLt_bf16_f32 :=
  (keep11 m ρ c main_v43 (by decide) (by decide) (by decide)).trans ((W7_of m ρ c main_v43 (by decide)).trans (narrow9_7 m ρ c))

theorem narrow11_11 : W10 m ρ c main_v44 = truncf (F := Ideal) (s := S3x128x60) .bf16 ((stack m c).a11) bitsLt_bf16_f32 :=
  (keep11 m ρ c main_v44 (by decide) (by decide) (by decide)).trans ((W7_of m ρ c main_v44 (by decide)).trans (narrow11_7 m ρ c))

theorem narrow13_11 : W10 m ρ c main_v45 = truncf (F := Ideal) (s := S3x9x60) .bf16 ((stack m c).a13) bitsLt_bf16_f32 :=
  (keep11 m ρ c main_v45 (by decide) (by decide) (by decide)).trans ((W7_of m ρ c main_v45 (by decide)).trans (narrow13_7 m ρ c))

theorem layer11 : Region2.layer (V11 m ρ) c = (stack m c).layer 2 :=
  Host.layer2_of (W10 m ρ c) (stack m c) (narrow7_11 m ρ c) (narrow9_11 m ρ c) (narrow11_11 m ρ c) (narrow13_11 m ρ c)
    (W10_args m ρ c main_arg8 (by decide)) (W10_args m ρ c main_arg10 (by decide)) (W10_args m ρ c main_arg12 (by decide))

/-- Region 2 leaves layer 2's messages. -/
theorem messages12 : W12 m ρ c main_v140 = messages ((stack m c).layer 2) (geom m c) (senders (layerStep m c 1 (layerStep m c 0 (start m c))) (m ((c : Thread nD τ).loc main_arg3))) := by
  refine (W12_arr m ρ c 9).trans ((Region2.final (V11 m ρ) c).trans ?_)
  rw [layer11]
  exact congrArg₂ _ (geom11 m ρ c) (senders11 m ρ c)

/-- Layer 2's step. -/
theorem features14 : W14 m ρ c main_v150 = layerStep m c 2 (layerStep m c 1 (layerStep m c 0 (start m c))) := by
  refine (Host.activate2_of (W13 m ρ c)).trans (congrArg activate ?_)
  refine (Host.mixed2_of (W12 m ρ c) (stack m c) (W12_args m ρ c main_arg14 (by decide))).trans ?_
  rw [messages12, W12_of m ρ c main_v115 (by decide), features11, W12_args m ρ c main_arg4 (by decide)]
  rfl

/-- The result buffer at the end: the network of the launched arguments. -/
theorem result : W15 m ρ c main_v165 = network (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (stack m c)
    (m ((c : Thread nD τ).loc main_arg15)) := by
  refine (Host.readout_of (W14 m ρ c)).trans ?_
  rw [features14, W14_args m ρ c main_arg15 (by decide), W14_args m ρ c main_arg2 (by decide)]
  rfl

end Cert.Net.Value
-- ==== Proof.Reference.lean ====
/- The reference's arrays in the network's terms: its harmonics, its basis functions, one layer's messages and the
nodes' first features, each written once as a function of the arrays it reads. -/
module
public import proofs.«01_k».proof.Proof.Slices
public import proofs.«01_k».proof.Proof.Gen.ReferenceIdeal.Run
public import Idealize.ShloMosaic.Lib.Pointwise

@[expose] public section

set_option maxRecDepth 16384

noncomputable section

namespace Cert.Net.Reference

open Idealize.ShloMosaic
open Cert.ReferenceIdeal Cert.ReferenceIdeal.Gen Cert.Edge

/-- A number repeated over the edges. -/
abbrev onEdges (b : BitVec 32) : Vec Ideal S800000 .f32 := broadcastInDim S800000 ![] bcast_S_S800000 (constant (F := Ideal) S_ .f32 b)

/-- A number repeated over the edges and the basis functions. -/
abbrev onBasis (b : BitVec 32) : Vec Ideal S800000x50 .f32 := broadcastInDim S800000x50 ![] bcast_S_S800000x50 (constant (F := Ideal) S_ .f32 b)

/-- One column per edge. -/
abbrev column (v : Vec Ideal S800000 .f32) : Vec Ideal S800000x1 .f32 := broadcastInDim S800000x1 ![0] bcast_S800000_S800000x1_0 v

/-- The table of harmonics of the edges' coordinates. -/
def table (x y z : Vec Ideal S800000 .f32) : Vec Ideal S800000x9 .f32 :=
  concatenate S800000x9 1 [⟨S800000x1, column (onEdges 0x3F800000#32)⟩,
    ⟨S800000x1, column (mulf (F := Ideal) (φ := .f32) (onEdges 0x3FDDB3D7#32) x)⟩,
    ⟨S800000x1, column (mulf (F := Ideal) (φ := .f32) (onEdges 0x3FDDB3D7#32) y)⟩,
    ⟨S800000x1, column (mulf (F := Ideal) (φ := .f32) (onEdges 0x3FDDB3D7#32) z)⟩,
    ⟨S800000x1, column (mulf (F := Ideal) (φ := .f32) (mulf (F := Ideal) (φ := .f32) (onEdges 0x4077DEF6#32) x) y)⟩,
    ⟨S800000x1, column (mulf (F := Ideal) (φ := .f32) (mulf (F := Ideal) (φ := .f32) (onEdges 0x4077DEF6#32) y) z)⟩,
    ⟨S800000x1, column (mulf (F := Ideal) (φ := .f32) (onEdges 0x3F8F1BBD#32) (subf (F := Ideal) (φ := .f32) (mulf (F := Ideal) (φ := .f32) (mulf (F := Ideal) (φ := .f32) (onEdges 0x40400000#32) z) z) (onEdges 0x3F800000#32)))⟩,
    ⟨S800000x1, column (mulf (F := Ideal) (φ := .f32) (mulf (F := Ideal) (φ := .f32) (onEdges 0x4077DEF6#32) x) z)⟩,
    ⟨S800000x1, column (mulf (F := Ideal) (φ := .f32) (onEdges 0x3FF7DEF6#32) (subf (F := Ideal) (φ := .f32) (mulf (F := Ideal) (φ := .f32) x x) (mulf (F := Ideal) (φ := .f32) y y)))⟩]
    concatenates_S800000x1_S800000x1_S800000x1_S800000x1_S800000x1_S800000x1_S800000x1_S800000x1_S800000x1_S800000x9_d1

/-- A row of the table lists the nine harmonics of the row's coordinates. -/
theorem table_entry (x y z : Vec Ideal S800000 .f32) (e : Fin 800000) (j : Fin 9) :
    table x y z (ix2 e j) = harmonic (x (ix1 e)) (y (ix1 e)) (z (ix1 e)) j := by
  pointwise [table]
  fin_cases j <;> rfl

/-- The basis functions' relative positions, in fifty-firsts of the radius. -/
def fractions : Vec Ideal S51 .f32 :=
  Host.divf (F := Ideal) (φ := .f32) (sitofp .f32 (iotaInDim S51 32 0)) (broadcastInDim S51 ![] bcast_S_S51 (constant S_ .f32 0x424C0000#32))

/-- The basis functions' centres, from the first past zero to the last before the radius. -/
def centres : Vec Ideal S50 .f32 :=
  extractStridedSlice S50 ![1] (concatenate S52 0 [
    ⟨S51, addf (F := Ideal) (φ := .f32)
      (mulf (broadcastInDim S51 ![0] bcast_S1_S51_0 (shapeCast S1 (constant (F := Ideal) S_ .f32 0x00000000#32) shapeCasts_S_S1))
        (subf (broadcastInDim S51 ![] bcast_S_S51 (constant S_ .f32 0x3F800000#32)) fractions))
      (mulf (broadcastInDim S51 ![0] bcast_S1_S51_0 (shapeCast S1 (constant (F := Ideal) S_ .f32 0x41200000#32) shapeCasts_S_S1)) fractions)⟩,
    ⟨S1, broadcastInDim S1 ![] bcast_S_S1 (constant (F := Ideal) S_ .f32 0x41200000#32)⟩]
    concatenates_S51_S1_S52_d0) slices_S52_S50_1

/-- The lengths' distances from the centres, in widths. -/
def offsets (l : Vec Ideal S800000 .f32) : Vec Ideal S800000x50 .f32 :=
  Host.divf (F := Ideal) (φ := .f32)
    (subf (broadcastInDim S800000x50 ![0, 1] bcast_S800000x1_S800000x50_0_1 (column l))
      (broadcastInDim S800000x50 ![0, 1] bcast_S1x50_S800000x50_0_1 (broadcastInDim S1x50 ![1] bcast_S50_S1x50_1 centres)))
    (broadcastInDim S800000x50 ![] bcast_S_S800000x50 (Host.divf (constant S_ .f32 0x41200000#32) (constant S_ .f32 0x424C0000#32)))

/-- The radius denotes ten. -/
theorem lit_ten : Ideal.ofBits .f32 1092616192#32 = ((10 : ℝ) : EReal) := by
  simp [Ideal.ofBits, Ideal.ieee, -EReal.coe_mul]; norm_num

/-- The number of widths in the radius denotes fifty-one. -/
theorem lit_fiftyone : Ideal.ofBits .f32 1112276992#32 = ((51 : ℝ) : EReal) := by
  simp [Ideal.ofBits, Ideal.ieee, -EReal.coe_mul]; norm_num

/-- Taking away a centre and dividing by the width is dividing by the width and taking away the centre's number of
    widths, at every length. -/
theorem offset_widths (x : EReal) (n : ℝ) :
    Ideal.div (x - ((10 * (n / 51) : ℝ) : EReal)) ((10 / 51 : ℝ) : EReal) = Ideal.div x ((10 / 51 : ℝ) : EReal) - ((n : ℝ) : EReal) := by
  have hw : (10 / 51 : ℝ) ≠ 0 := by norm_num
  have hp : (0 : ℝ) < 1 / (10 / 51) := by norm_num
  rw [Ideal.div_coe hw, Ideal.div_coe hw]
  induction x with
  | bot => rw [EReal.bot_sub, EReal.bot_mul_coe_of_pos hp, EReal.bot_sub]
  | top => rw [EReal.top_sub_coe, EReal.top_mul_coe_of_pos hp, EReal.top_sub_coe]
  | coe r =>
    rw [← EReal.coe_sub, ← EReal.coe_mul, ← EReal.coe_mul, ← EReal.coe_sub]
    congr 1
    ring

/-- An entry of the distances: the offset of the edge's length from the basis function's centre. -/
theorem offsets_entry (l : Vec Ideal S800000 .f32) (e : Fin 800000) (i : Fin 50) :
    offsets l (ix2 e i) = offset (l (ix1 e)) i := by
  pointwise [offsets, centres, fractions, offset]
  have hn : (FloatOps.sitofp (F := Ideal) FTy.f32 (BitVec.ofNat 32 (1 + (i : ℕ))) : EReal) = (((i : ℕ) : ℝ) + 1 : ℝ) := by
    show (((BitVec.ofNat 32 (1 + (i : ℕ))).toInt : ℝ) : EReal) = _
    have : ∀ i : Fin 50, (BitVec.ofNat 32 (1 + (i : ℕ))).toInt = ((i : ℕ) : ℤ) + 1 := by decide
    rw [this, Int.cast_add, Int.cast_natCast, Int.cast_one]
  have h51 : (51 : ℝ) ≠ 0 := by norm_num
  rw [dif_pos (show 1 + (i : ℕ) < 51 by omega), hn, lit_ten, lit_fiftyone, Ideal.div_coe h51, Ideal.div_coe h51, zero_mul, zero_add,
    ← EReal.coe_mul, ← EReal.coe_mul, ← EReal.coe_mul, mul_one_div, mul_one_div, offset_widths, EReal.coe_add, EReal.coe_one]

/-- The bumps at the offsets. -/
def bumps (u : Vec Ideal S800000x50 .f32) : Vec Ideal S800000x50 .f32 :=
  let b : Vec Ideal S800000x50 .i1 := cmpf .olt (Host.absf (F := Ideal) (φ := .f32) u) (onBasis 0x3F800000#32)
  mulf (F := Ideal) (φ := .f32) (select b (mulf (F := Ideal) (φ := .f32) (onBasis 0x4106EFEA#32)
      (Host.exp (F := Ideal) (φ := .f32) (Host.divf (F := Ideal) (φ := .f32) (onBasis 0x3F800000#32)
        (select b (subf (F := Ideal) (φ := .f32) (mulf u u) (onBasis 0x3F800000#32)) (onBasis 0xBF800000#32)))))
    (onBasis 0x00000000#32)) (onBasis 0x40E24630#32)

theorem bumps_entry (u : Vec Ideal S800000x50 .f32) (e : Fin 800000) (i : Fin 50) :
    bumps u (ix2 e i) = bump (u (ix2 e i)) := by
  pointwise [bumps]
  rfl

/-- The activation of a hidden array. -/
def hiddenAct (h : Vec Ideal S800000x128 .f32) : Vec Ideal S800000x128 .f32 :=
  mulf (F := Ideal) (φ := .f32) h (Host.divf (F := Ideal) (φ := .f32) (broadcastInDim S800000x128 ![] bcast_S_S800000x128 (constant S_ .f32 0x3F800000#32))
    (addf (F := Ideal) (φ := .f32) (broadcastInDim S800000x128 ![] bcast_S_S800000x128 (constant S_ .f32 0x3F800000#32)) (Host.exp (Host.negf h))))

theorem hiddenAct_entry (h : Vec Ideal S800000x128 .f32) (e : Fin 800000) (p : Fin 128) :
    hiddenAct h (ix2 e p) = silu (h (ix2 e p)) := by
  pointwise [hiddenAct]
  rfl

/-- The first hidden array of the radial network. -/
def radial1 (f : Vec Ideal S800000x50 .f32) (w : Vec Ideal S50x128 .f32) (b : Vec Ideal S128 .f32) : Vec Ideal S800000x128 .f32 :=
  addf (F := Ideal) (φ := .f32) (Host.dotGeneral (F := Ideal) (φ₁ := .f32) (φ₂ := .f32) dot_S800000x50_S50x128_S800000x128_1_0_0_1_n_n none f w)
    (broadcastInDim S800000x128 ![0, 1] bcast_S1x128_S800000x128_0_1 (broadcastInDim S1x128 ![1] bcast_S128_S1x128_1 b))

theorem radial1_entry (f : Vec Ideal S800000x50 .f32) (w : Vec Ideal S50x128 .f32) (b : Vec Ideal S128 .f32)
    (e : Fin 800000) (p : Fin 128) :
    radial1 f w b (ix2 e p) = (∑ i, f (ix2 e i) * w (ix2 i p)) + b (ix1 p) := by
  pointwise [radial1]

/-- The second hidden array of the radial network. -/
def radial2 (h : Vec Ideal S800000x128 .f32) (w : Vec Ideal S128x128 .f32) (b : Vec Ideal S128 .f32) : Vec Ideal S800000x128 .f32 :=
  addf (F := Ideal) (φ := .f32) (Host.dotGeneral (F := Ideal) (φ₁ := .f32) (φ₂ := .f32) dot_S800000x128_S128x128_S800000x128_1_0_0_1_n_n none (hiddenAct h) w)
    (broadcastInDim S800000x128 ![0, 1] bcast_S1x128_S800000x128_0_1 (broadcastInDim S1x128 ![1] bcast_S128_S1x128_1 b))

theorem radial2_entry (h : Vec Ideal S800000x128 .f32) (w : Vec Ideal S128x128 .f32) (b : Vec Ideal S128 .f32)
    (e : Fin 800000) (q : Fin 128) :
    radial2 h w b (ix2 e q) = (∑ p, silu (h (ix2 e p)) * w (ix2 p q)) + b (ix1 q) := by
  simp only [← hiddenAct_entry]
  unfold radial2
  generalize hiddenAct h = s
  pointwise []

/-- The messages from the harmonics, the second hidden array and the senders' features. -/
def sent (s : Vec Ideal S800000x9 .f32) (h : Vec Ideal S800000x128 .f32) (x : Vec Ideal S800000x60 .f32)
    (ws : Vec Ideal S9x60 .f32) (w : Vec Ideal S128x60 .f32) (b : Vec Ideal S60 .f32) : Vec Ideal S800000x60 .f32 :=
  mulf (F := Ideal) (φ := .f32) (mulf (F := Ideal) (φ := .f32) x
      (Host.dotGeneral (F := Ideal) (φ₁ := .f32) (φ₂ := .f32) dot_S800000x9_S9x60_S800000x60_1_0_0_1_n_n none s ws))
    (addf (F := Ideal) (φ := .f32) (Host.dotGeneral (F := Ideal) (φ₁ := .f32) (φ₂ := .f32) dot_S800000x128_S128x60_S800000x60_1_0_0_1_n_n none (hiddenAct h) w)
      (broadcastInDim S800000x60 ![0, 1] bcast_S1x60_S800000x60_0_1 (broadcastInDim S1x60 ![1] bcast_S60_S1x60_1 b)))

theorem sent_entry (s : Vec Ideal S800000x9 .f32) (h : Vec Ideal S800000x128 .f32) (x : Vec Ideal S800000x60 .f32)
    (ws : Vec Ideal S9x60 .f32) (w : Vec Ideal S128x60 .f32) (b : Vec Ideal S60 .f32) (e : Fin 800000) (c : Fin 60) :
    sent s h x ws w b (ix2 e c) = x (ix2 e c) * (∑ j, s (ix2 e j) * ws (ix2 j c))
      * ((∑ q, silu (h (ix2 e q)) * w (ix2 q c)) + b (ix1 c)) := by
  simp only [← hiddenAct_entry]
  unfold sent
  generalize hiddenAct h = t
  pointwise []

/-- A product with a column of ones repeats the one row, and so does the sum over that row repeated. -/
theorem ones_entry (we : Vec Ideal S1x60 .f32) (v : Vec Ideal S50000x60 .f32) :
    addf (F := Ideal) (φ := .f32) (Host.dotGeneral (F := Ideal) (φ₁ := .f32) (φ₂ := .f32) dot_S50000x1_S1x60_S50000x60_1_0_0_1_n_n none
      (broadcastInDim S50000x1 ![] bcast_S_S50000x1 (constant (F := Ideal) S_ .f32 0x3F800000#32)) we) v
    = addf (F := Ideal) (φ := .f32) (broadcastInDim Cert.KernelIdeal.S50000x60 ![0, 1] Cert.KernelIdeal.Gen.bcast_S1x60_S50000x60_0_1
      (broadcastInDim Cert.KernelIdeal.S1x60 ![1] Cert.KernelIdeal.Gen.bcast_S60_S1x60_1
        (mulf (broadcastInDim Cert.KernelIdeal.S60 ![] Cert.KernelIdeal.Gen.bcast_S_S60 (constant S_ .f32 0x3F800000#32))
          (Host.reduceAdd we (constant S_ .f32 0x00000000#32) Cert.KernelIdeal.Gen.reducesTo_S1x60_S60_d0 Cert.KernelIdeal.Gen.h_S_)))) v := by
  funext i
  rw [eq_ix2 i]
  generalize (i 0 : Fin 50000) = a
  generalize (i 1 : Fin 60) = b
  pointwise []

end Cert.Net.Reference
-- ==== Proof.ReferenceValue.lean ====
/- The reference's result: the network of the argument arrays. One layer is read once, at whichever layer. -/
module
public import proofs.«01_k».proof.Proof.Reference

@[expose] public section

set_option maxRecDepth 16384

noncomputable section

namespace Cert.Net.Reference

open Idealize.ShloMosaic Idealize.ShloMosaic.TcCoe Idealize.ShloMosaic.StableHlo
open Cert.ReferenceIdeal Cert.ReferenceIdeal.Gen Cert.ReferenceIdeal.Value Cert.Edge

/-- A coordinate of the edges' directions. -/
def coordinate (d : Vec Ideal S800000x3 .f32) (a : Fin 3) (h : S800000x3.Slices ![0, (a : Nat)] S800000x1) : Vec Ideal S800000 .f32 :=
  shapeCast S800000 (extractStridedSlice S800000x1 ![0, (a : Nat)] d h) shapeCasts_S800000x1_S800000

/-- An entry of a coordinate. -/
theorem coordinate_entry (d : Vec Ideal S800000x3 .f32) (a : Fin 3) (h : S800000x3.Slices ![0, (a : Nat)] S800000x1) (e : Fin 800000) :
    coordinate d a h (ix1 e) = d (ix2 e a) := by
  fin_cases a
  all_goals
    dsimp only [coordinate]
    pointwise []

variable (pos : Vec Ideal S50000x3 .f32) (src dst : Vec Ideal S800000 .i32)

/-- The geometry's first three columns are the directions. -/
theorem geometry_direction (e : Fin 800000) (a : Fin 3) :
    geometry pos src dst (ix2 e a.castSucc) = edgeDir pos src dst (ix2 e a) := by
  unfold geometry
  generalize edgeDir pos src dst = d
  generalize edgeLen pos src dst = l
  pointwise []
  fin_cases a <;> rfl

/-- The geometry's last column is the lengths. -/
theorem geometry_length (e : Fin 800000) : geometry pos src dst (ix2 e 3) = edgeLen pos src dst (ix1 e) := by
  unfold geometry
  generalize edgeDir pos src dst = d
  generalize edgeLen pos src dst = l
  pointwise []

/-- The table of harmonics at the edges' directions. -/
abbrev directions : Vec Ideal S800000x9 .f32 :=
  table (coordinate (edgeDir pos src dst) 0 slices_S800000x3_S800000x1_0_0)
    (coordinate (edgeDir pos src dst) 1 slices_S800000x3_S800000x1_0_1) (coordinate (edgeDir pos src dst) 2 slices_S800000x3_S800000x1_0_2)

/-- The reference's messages at a layer whose weights are `w1 … ws`. -/
def outgoing (x : Vec Ideal S50000x60 .f32) (w1 : Vec Ideal S50x128 .f32) (b1 : Vec Ideal S128 .f32) (w2 : Vec Ideal S128x128 .f32)
    (b2 : Vec Ideal S128 .f32) (w3 : Vec Ideal S128x60 .f32) (b3 : Vec Ideal S60 .f32) (ws : Vec Ideal S9x60 .f32) : Vec Ideal S800000x60 .f32 :=
  sent (directions pos src dst) (radial2 (radial1 (bumps (offsets (edgeLen pos src dst))) w1 b1) w2 b2) (senders x src) ws w3 b3

/-- The reference's messages at layer `k` are that layer's messages over the edges' geometry. -/
theorem outgoing_slices (A : Stack) (k : Fin 3) (x : Vec Ideal S50000x60 .f32)
    (h7 : S3x50x128.Slices ![(k : Nat), 0, 0] S1x50x128) (h8 : S3x128.Slices ![(k : Nat), 0] S1x128)
    (h9 : S3x128x128.Slices ![(k : Nat), 0, 0] S1x128x128) (h10 : S3x128.Slices ![(k : Nat), 0] S1x128)
    (h11 : S3x128x60.Slices ![(k : Nat), 0, 0] S1x128x60) (h12 : S3x60.Slices ![(k : Nat), 0] S1x60)
    (h13 : S3x9x60.Slices ![(k : Nat), 0, 0] S1x9x60) :
    outgoing pos src dst x
      (shapeCast S50x128 (extractStridedSlice S1x50x128 ![(k : Nat), 0, 0] A.a7 h7) shapeCasts_S1x50x128_S50x128)
      (shapeCast S128 (extractStridedSlice S1x128 ![(k : Nat), 0] A.a8 h8) shapeCasts_S1x128_S128)
      (shapeCast S128x128 (extractStridedSlice S1x128x128 ![(k : Nat), 0, 0] A.a9 h9) shapeCasts_S1x128x128_S128x128)
      (shapeCast S128 (extractStridedSlice S1x128 ![(k : Nat), 0] A.a10 h10) shapeCasts_S1x128_S128)
      (shapeCast S128x60 (extractStridedSlice S1x128x60 ![(k : Nat), 0, 0] A.a11 h11) shapeCasts_S1x128x60_S128x60)
      (shapeCast S60 (extractStridedSlice S1x60 ![(k : Nat), 0] A.a12 h12) shapeCasts_S1x60_S60)
      (shapeCast S9x60 (extractStridedSlice S1x9x60 ![(k : Nat), 0, 0] A.a13 h13) shapeCasts_S1x9x60_S9x60)
      = messages (A.layer k) (geometry pos src dst) (senders x src) := by
  funext i
  obtain ⟨e, c, rfl⟩ : ∃ (e : Fin 800000) (c : Fin 60), i = ix2 e c := ⟨i 0, i 1, eq_ix2 i⟩
  refine (sent_entry _ _ _ _ _ _ e c).trans ?_
  have hw1 : ∀ a b, shapeCast S50x128 (extractStridedSlice S1x50x128 ![(k : Nat), 0, 0] A.a7 h7) shapeCasts_S1x50x128_S50x128 (ix2 a b) = (A.layer k).w1 a b :=
    matrix_entry k A.a7 h7 _
  have hb1 : ∀ a, shapeCast S128 (extractStridedSlice S1x128 ![(k : Nat), 0] A.a8 h8) shapeCasts_S1x128_S128 (ix1 a) = (A.layer k).b1 a :=
    vector_entry k A.a8 h8 _
  have hw2 : ∀ a b, shapeCast S128x128 (extractStridedSlice S1x128x128 ![(k : Nat), 0, 0] A.a9 h9) shapeCasts_S1x128x128_S128x128 (ix2 a b) = (A.layer k).w2 a b :=
    matrix_entry k A.a9 h9 _
  have hb2 : ∀ a, shapeCast S128 (extractStridedSlice S1x128 ![(k : Nat), 0] A.a10 h10) shapeCasts_S1x128_S128 (ix1 a) = (A.layer k).b2 a :=
    vector_entry k A.a10 h10 _
  have hw3 : ∀ a b, shapeCast S128x60 (extractStridedSlice S1x128x60 ![(k : Nat), 0, 0] A.a11 h11) shapeCasts_S1x128x60_S128x60 (ix2 a b) = (A.layer k).w3 a b :=
    matrix_entry k A.a11 h11 _
  have hb3 : ∀ a, shapeCast S60 (extractStridedSlice S1x60 ![(k : Nat), 0] A.a12 h12) shapeCasts_S1x60_S60 (ix1 a) = (A.layer k).b3 a :=
    vector_entry k A.a12 h12 _
  have hws : ∀ a b, shapeCast S9x60 (extractStridedSlice S1x9x60 ![(k : Nat), 0, 0] A.a13 h13) shapeCasts_S1x9x60_S9x60 (ix2 a b) = (A.layer k).ws a b :=
    matrix_entry k A.a13 h13 _
  simp only [hw1, hb1, hw2, hb2, hw3, hb3, hws, radial2_entry, radial1_entry, bumps_entry, offsets_entry, directions, table_entry, coordinate_entry]
  have g0 := geometry_direction pos src dst e 0
  have g1 := geometry_direction pos src dst e 1
  have g2 := geometry_direction pos src dst e 2
  have g3 := geometry_length pos src dst e
  rw [← g0, ← g1, ← g2, ← g3]
  rfl

/-- The nodes' first features. -/
theorem start_of (V : Valuation τ sig (Elt Ideal)) :
    res_main_v105 (F := Ideal) V = embed (oneHot (nodeClass (V main_arg0))) (V main_arg5) (V main_arg6) :=
  ones_entry (V main_arg5) (attributes (oneHot (nodeClass (V main_arg0))) (V main_arg6))

/-- The stacked weights among the arguments. -/
def stackOf (V : Valuation τ sig (Elt Ideal)) : Stack where
  a7 := V main_arg7
  a8 := V main_arg8
  a9 := V main_arg9
  a10 := V main_arg10
  a11 := V main_arg11
  a12 := V main_arg12
  a13 := V main_arg13
  a14 := V main_arg14

/-- The features after layer 0. -/
theorem features0 (V : Valuation τ sig (Elt Ideal)) : res_main_v153 (F := Ideal) V
    = step (stackOf V) (V main_arg1) (V main_arg3) (V main_arg4) 0 (res_main_v105 V) := by
  unfold step
  rw [← outgoing_slices (V main_arg1) (V main_arg3) (V main_arg4) (stackOf V) 0 (res_main_v105 V) slices_S3x50x128_S1x50x128_0_0_0
    slices_S3x128_S1x128_0_0 slices_S3x128x128_S1x128x128_0_0_0 slices_S3x128_S1x128_0_0 slices_S3x128x60_S1x128x60_0_0_0
    slices_S3x60_S1x60_0_0 slices_S3x9x60_S1x9x60_0_0_0, ← self_slice 0 (stackOf V) slices_S3x60x60_S1x60x60_0_0_0]
  rfl

/-- The features after layer 1. -/
theorem features1 (V : Valuation τ sig (Elt Ideal)) : res_main_v201 (F := Ideal) V
    = step (stackOf V) (V main_arg1) (V main_arg3) (V main_arg4) 1 (res_main_v153 V) := by
  unfold step
  rw [← outgoing_slices (V main_arg1) (V main_arg3) (V main_arg4) (stackOf V) 1 (res_main_v153 V) slices_S3x50x128_S1x50x128_1_0_0
    slices_S3x128_S1x128_1_0 slices_S3x128x128_S1x128x128_1_0_0 slices_S3x128_S1x128_1_0 slices_S3x128x60_S1x128x60_1_0_0
    slices_S3x60_S1x60_1_0 slices_S3x9x60_S1x9x60_1_0_0, ← self_slice 1 (stackOf V) slices_S3x60x60_S1x60x60_1_0_0]
  rfl

/-- The features after layer 2. -/
theorem features2 (V : Valuation τ sig (Elt Ideal)) : activate (res_main_v248 (F := Ideal) V)
    = step (stackOf V) (V main_arg1) (V main_arg3) (V main_arg4) 2 (res_main_v201 V) := by
  unfold step
  rw [← outgoing_slices (V main_arg1) (V main_arg3) (V main_arg4) (stackOf V) 2 (res_main_v201 V) slices_S3x50x128_S1x50x128_2_0_0
    slices_S3x128_S1x128_2_0 slices_S3x128x128_S1x128x128_2_0_0 slices_S3x128_S1x128_2_0 slices_S3x128x60_S1x128x60_2_0_0
    slices_S3x60_S1x60_2_0 slices_S3x9x60_S1x9x60_2_0_0, ← self_slice 2 (stackOf V) slices_S3x60x60_S1x60x60_2_0_0]
  rfl

/-- The result: the network of the arguments. -/
theorem result (V : Valuation τ sig (Elt Ideal)) :
    Host.scatterAdd (F := Ideal) (φ := .f32) scatter_S2500x1_S50000x1_S50000x1_1_0_0_1 (broadcastInDim S2500x1 ![] bcast_S_S2500x1 (constant S_ .f32 0x00000000#32))
      (broadcastInDim S50000x1 ![0] bcast_S50000_S50000x1_0 (V main_arg2))
      (broadcastInDim S50000x1 ![0] bcast_S50000_S50000x1_0 (Host.divf (addf (shapeCast S50000 (extractStridedSlice S50000x1 ![0, 0] (res_main_v250 V) slices_S50000x2_S50000x1_0_0) shapeCasts_S50000x1_S50000)
        (mulf (broadcastInDim S50000 ![] bcast_S_S50000 (constant S_ .f32 0x3F000000#32)) (mulf (res_main_v254 V) (res_main_v254 V))))
        (broadcastInDim S50000 ![] bcast_S_S50000 (constant S_ .f32 0x408F1BBD#32))))
    = network (V main_arg0) (V main_arg1) (V main_arg2) (V main_arg3) (V main_arg4) (V main_arg5) (V main_arg6) (stackOf V) (V main_arg15) := by
  unfold network
  rw [← start_of, ← features0, ← features1, ← features2]
  rfl

/-- The network agrees on equal arguments. -/
theorem network_eq {z z' : Vec Ideal S50000 .i32} {pos pos' : Vec Ideal S50000x3 .f32} {batch batch' : Vec Ideal S50000 .i32}
    {src src' dst dst' : Vec Ideal S800000 .i32} {we we' : Vec Ideal S1x60 .f32} {wa wa' : Vec Ideal S5x60 .f32} {A A' : Stack}
    {wo wo' : Vec Ideal S60x2 .f32} (h0 : z = z') (h1 : pos = pos') (h2 : batch = batch') (h3 : src = src') (h4 : dst = dst')
    (h5 : we = we') (h6 : wa = wa') (h7 : A.a7 = A'.a7) (h8 : A.a8 = A'.a8) (h9 : A.a9 = A'.a9) (h10 : A.a10 = A'.a10)
    (h11 : A.a11 = A'.a11) (h12 : A.a12 = A'.a12) (h13 : A.a13 = A'.a13) (h14 : A.a14 = A'.a14) (h15 : wo = wo') :
    network z pos batch src dst we wa A wo = network z' pos' batch' src' dst' we' wa' A' wo' := by
  cases A; cases A'
  cases h7; cases h8; cases h9; cases h10; cases h11; cases h12; cases h13; cases h14
  rw [h0, h1, h2, h3, h4, h5, h6, h15]

end Cert.Net.Reference
-- ==== Proof.lean ====
/- The five claims about the kernel and the reference: each of the three programs runs and leaves its arguments as they
   were, the kernel over the extended reals is the printed kernel with one constant named, and it ends with the
   reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelValue
public import proofs.«01_k».proof.Proof.ReferenceValue
public import Idealize.ShloMosaic.Lib.Quiescent
public import Idealize.ShloMosaic.Adequacy
public import Idealize.ShloMosaic.Init

@[expose] public section

set_option maxRecDepth 16384

noncomputable section

namespace Cert.Net.Run

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The network of the arrays a device is launched with. -/
def output (c : Dev nD) : Vec Ideal S2500x1 .f32 :=
  network (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (Value.stack m c) (m ((c : Thread nD τ).loc main_arg15))

end Cert.Net.Run

namespace Cert.Proof

open Idealize.ShloMosaic Idealize.ShloMosaic.TcCoe Idealize.SL.Sem Cert.Net

/-- The kernel as printed terminates without a fault, leaves its arguments as they were and every counter at zero. -/
theorem frame_kernel : Cert.quiescent_Kernel (hKernel := Cert.Kernel.Gen.facts) :=
  fun m ρ _ => Cert.Kernel.Gen.frame m ρ

/-- So does the kernel over the extended reals. -/
theorem frame_ideal : Cert.quiescent_KernelIdeal (hKernelIdeal := Cert.KernelIdeal.Gen.facts) :=
  fun m ρ _ => Cert.KernelIdeal.Gen.frame m ρ

/-- So does the reference. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

/-- The width the kernel divides by is the named ten fifty-firsts, rounded. -/
theorem width_named : Cert.preserves_Kernel_KernelIdeal :=
  IdealRules.named_const.statement Cert.KernelIdeal.κ "step" .f32 0x3E48C8C9#32 ((10 / 51 : ℝ) : EReal) rfl

/-- Over the extended reals the kernel and the reference end with the same array, the network of their arguments. -/
theorem equal_results : Cert.algebraic_KernelIdeal_ReferenceIdeal (hKernelIdeal := Cert.KernelIdeal.Gen.facts)
    (hReferenceIdeal := Cert.ReferenceIdeal.Gen.facts) := by
  intro m ρ m' ρ' _ hagree
  refine ⟨fun c => Run.output m c, ?_, ?_⟩
  · refine (θ_run Cert.KernelIdeal.defs _ _).mono (fun r h c => ?_) (Run.all_buffers (F := Ideal) m ρ)
    exact ⟨(h c _ (Cert.KernelIdeal.Gen.mem_uc Cert.KernelIdeal.main_v165 (by decide))).trans (Value.result m ρ c),
      (h c _ (Cert.KernelIdeal.Gen.mem_uc Cert.KernelIdeal.main_arg0 (by decide))).trans (Cert.KernelIdeal.Gen.W15_main_arg0 m ρ c),
      (h c _ (Cert.KernelIdeal.Gen.mem_uc Cert.KernelIdeal.main_arg1 (by decide))).trans (Cert.KernelIdeal.Gen.W15_main_arg1 m ρ c),
      (h c _ (Cert.KernelIdeal.Gen.mem_uc Cert.KernelIdeal.main_arg2 (by decide))).trans (Cert.KernelIdeal.Gen.W15_main_arg2 m ρ c),
      (h c _ (Cert.KernelIdeal.Gen.mem_uc Cert.KernelIdeal.main_arg3 (by decide))).trans (Cert.KernelIdeal.Gen.W15_main_arg3 m ρ c),
      (h c _ (Cert.KernelIdeal.Gen.mem_uc Cert.KernelIdeal.main_arg4 (by decide))).trans (Cert.KernelIdeal.Gen.W15_main_arg4 m ρ c),
      (h c _ (Cert.KernelIdeal.Gen.mem_uc Cert.KernelIdeal.main_arg5 (by decide))).trans (Cert.KernelIdeal.Gen.W15_main_arg5 m ρ c),
      (h c _ (Cert.KernelIdeal.Gen.mem_uc Cert.KernelIdeal.main_arg6 (by decide))).trans (Cert.KernelIdeal.Gen.W15_main_arg6 m ρ c),
      (h c _ (Cert.KernelIdeal.Gen.mem_uc Cert.KernelIdeal.main_arg7 (by decide))).trans (Cert.KernelIdeal.Gen.W15_main_arg7 m ρ c),
      (h c _ (Cert.KernelIdeal.Gen.mem_uc Cert.KernelIdeal.main_arg8 (by decide))).trans (Cert.KernelIdeal.Gen.W15_main_arg8 m ρ c),
      (h c _ (Cert.KernelIdeal.Gen.mem_uc Cert.KernelIdeal.main_arg9 (by decide))).trans (Cert.KernelIdeal.Gen.W15_main_arg9 m ρ c),
      (h c _ (Cert.KernelIdeal.Gen.mem_uc Cert.KernelIdeal.main_arg10 (by decide))).trans (Cert.KernelIdeal.Gen.W15_main_arg10 m ρ c),
      (h c _ (Cert.KernelIdeal.Gen.mem_uc Cert.KernelIdeal.main_arg11 (by decide))).trans (Cert.KernelIdeal.Gen.W15_main_arg11 m ρ c),
      (h c _ (Cert.KernelIdeal.Gen.mem_uc Cert.KernelIdeal.main_arg12 (by decide))).trans (Cert.KernelIdeal.Gen.W15_main_arg12 m ρ c),
      (h c _ (Cert.KernelIdeal.Gen.mem_uc Cert.KernelIdeal.main_arg13 (by decide))).trans (Cert.KernelIdeal.Gen.W15_main_arg13 m ρ c),
      (h c _ (Cert.KernelIdeal.Gen.mem_uc Cert.KernelIdeal.main_arg14 (by decide))).trans (Cert.KernelIdeal.Gen.W15_main_arg14 m ρ c),
      (h c _ (Cert.KernelIdeal.Gen.mem_uc Cert.KernelIdeal.main_arg15 (by decide))).trans (Cert.KernelIdeal.Gen.W15_main_arg15 m ρ c)⟩
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12, h13, h14, h15⟩ := hagree c
    exact (Reference.result (StableHlo.launchContents m' c)).trans
      (Reference.network_eq h0 h1 h2 h3 h4 h5 h6 h7 h8 h9 h10 h11 h12 h13 h14 h15)

/-- All five claims. -/
theorem claim : Cert.Claim := ⟨Cert.Kernel.Gen.facts, Cert.KernelIdeal.Gen.facts, Cert.ReferenceIdeal.Gen.facts,
  frame_kernel, frame_ideal, frame_reference, width_named, equal_results⟩

end Cert.Proof

end
